-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x1024x1024 : Shape := ⟨3, ![1, 1024, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x1024x1024 .f32) (main_arg1 : IVec S2 32) : IVec S2 1 :=
  let main_c : IVec S2 32 := fun i => lit0 (S2.rowMajor i)
  let main_v0 : IVec S2 1 := cmpi .eq main_arg1 main_c
  main_v0
-- ==== Pre_stays_ReferenceIdeal.lean ====
abbrev S2x1024x1024 : Shape := ⟨3, ![2, 1024, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x1024x1024 .f32) (main_arg1 : IVec S2 32) : IVec S2 1 :=
  let main_c : IVec S2 32 := fun i => lit0 (S2.rowMajor i)
  let main_v0 : IVec S2 1 := cmpi .eq main_arg1 main_c
  main_v0
-- ==== Pre_swaps_Kernel.lean ====
abbrev S1x1024x1024 : Shape := ⟨3, ![1, 1024, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x1024x1024 .f32) (main_arg1 : IVec S2 32) : IVec S2 1 :=
  let main_c : IVec S2 32 := fun i => lit0 (S2.rowMajor i)
  let main_v0 : IVec S2 1 := cmpi .eq main_arg1 main_c
  main_v0
-- ==== Pre_swaps_ReferenceIdeal.lean ====
abbrev S2x1024x1024 : Shape := ⟨3, ![2, 1024, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x1024x1024 .f32) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x1024x1024 : Shape := ⟨3, ![1, 1024, 1024]⟩
abbrev S2 : Shape := ⟨1, ![2]⟩
abbrev S4 : Shape := ⟨1, ![4]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 3
  | .vmem => 4
  | .smem => 1
  | _ => 0

abbrev bufTy : (tb : Table) → Fin (tcTables nBuf tb) → BufTy
  | .hbm, ⟨0, _⟩ => ⟨S1x1024x1024, .f32⟩
  | .hbm, ⟨1, _⟩ => ⟨S2, .i32⟩
  | .hbm, ⟨2, _⟩ => ⟨S1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .smem, ⟨0, _⟩ => ⟨S2, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : Index := Scalar.indexCast v5
  ![v9.toNat]
def k0_dev1 (d0 : Dev nD) (v10 : BitVec 32) : Nat :=
  let c0_i32_5 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v18 : BitVec 32 := Scalar.muli v2 c8_i32_4
  let v19 : BitVec 32 := Scalar.addi c0_i32_5 v18
  let c4_i32_6 : BitVec 32 := 4#32
  let v20 : BitVec 32 := Scalar.muli v10 c4_i32_6
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v22 : BitVec 32 := Scalar.muli v8 c1_i32_7
  let v23 : BitVec 32 := Scalar.addi v21 v22
  v23.toNat
def k0_cond1 (d0 : Dev nD) (v10 : BitVec 32) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 1 := Scalar.cmpi .ne v10 v5
  let v13 : BitVec 32 := Scalar.extui v12
  let c0_i32 : BitVec 32 := 0#32
  let v14 : BitVec 1 := Scalar.cmpi .ne v13 c0_i32
  v14

def k0_dev2 (d0 : Dev nD) (v10 : BitVec 32) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v30 : BitVec 32 := Scalar.muli v2 c8_i32_18
  let v31 : BitVec 32 := Scalar.addi c0_i32_19 v30
  let c4_i32_20 : BitVec 32 := 4#32
  let v32 : BitVec 32 := Scalar.muli v10 c4_i32_20
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v34 : BitVec 32 := Scalar.muli v8 c1_i32_21
  let v35 : BitVec 32 := Scalar.addi v33 v34
  v35.toNat
def k0_dev3 (d0 : Dev nD) (v10 : BitVec 32) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v50 : BitVec 32 := Scalar.muli v2 c8_i32_35
  let v51 : BitVec 32 := Scalar.addi c0_i32_36 v50
  let c4_i32_37 : BitVec 32 := 4#32
  let v52 : BitVec 32 := Scalar.muli v10 c4_i32_37
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v54 : BitVec 32 := Scalar.muli v8 c1_i32_38
  let v55 : BitVec 32 := Scalar.addi v53 v54
  v55.toNat
def k0_dev4 (d0 : Dev nD) (v10 : BitVec 32) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v70 : BitVec 32 := Scalar.muli v2 c8_i32_51
  let v71 : BitVec 32 := Scalar.addi c0_i32_52 v70
  let c4_i32_53 : BitVec 32 := 4#32
  let v72 : BitVec 32 := Scalar.muli v10 c4_i32_53
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v74 : BitVec 32 := Scalar.muli v8 c1_i32_54
  let v75 : BitVec 32 := Scalar.addi v73 v74
  v75.toNat
def k0_dev5 (d0 : Dev nD) (v10 : BitVec 32) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v90 : BitVec 32 := Scalar.muli v2 c8_i32_66
  let v91 : BitVec 32 := Scalar.addi c0_i32_67 v90
  let c4_i32_68 : BitVec 32 := 4#32
  let v92 : BitVec 32 := Scalar.muli v10 c4_i32_68
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v94 : BitVec 32 := Scalar.muli v8 c1_i32_69
  let v95 : BitVec 32 := Scalar.addi v93 v94
  v95.toNat

def k0_chk1 (d0 : Dev nD) (v10 : BitVec 32) : Prop :=
  (∀ (k0_h1 : k0_cond1 d0 v10 = 1#1), (k0_dev1 d0 v10) < nD) ∧
  (∀ (k0_h1 : k0_cond1 d0 v10 = 1#1), (k0_dev2 d0 v10) < nD) ∧
  (∀ (k0_h1 : k0_cond1 d0 v10 = 1#1), (k0_dev3 d0 v10) < nD) ∧
  (∀ (k0_h1 : k0_cond1 d0 v10 = 1#1), (k0_dev4 d0 v10) < nD) ∧
  (∀ (k0_h1 : k0_cond1 d0 v10 = 1#1), (k0_dev5 d0 v10) < nD)
theorem k0_dev1_lt : ∀ (d0 : Dev nD) (v10 : BitVec 32) (k0_hw1 : k0_chk1 d0 v10), ∀ (k0_h1 : k0_cond1 d0 v10 = 1#1), (k0_dev1 d0 v10) < nD := fun d0 v10 k0_hw1 k0_h1 => k0_hw1.1 k0_h1
theorem k0_dev2_lt : ∀ (d0 : Dev nD) (v10 : BitVec 32) (k0_hw1 : k0_chk1 d0 v10), ∀ (k0_h1 : k0_cond1 d0 v10 = 1#1), (k0_dev2 d0 v10) < nD := fun d0 v10 k0_hw1 k0_h1 => k0_hw1.2.1 k0_h1
theorem k0_dev3_lt : ∀ (d0 : Dev nD) (v10 : BitVec 32) (k0_hw1 : k0_chk1 d0 v10), ∀ (k0_h1 : k0_cond1 d0 v10 = 1#1), (k0_dev3 d0 v10) < nD := fun d0 v10 k0_hw1 k0_h1 => k0_hw1.2.2.1 k0_h1
theorem k0_dev4_lt : ∀ (d0 : Dev nD) (v10 : BitVec 32) (k0_hw1 : k0_chk1 d0 v10), ∀ (k0_h1 : k0_cond1 d0 v10 = 1#1), (k0_dev4 d0 v10) < nD := fun d0 v10 k0_hw1 k0_h1 => k0_hw1.2.2.2.1 k0_h1
theorem k0_dev5_lt : ∀ (d0 : Dev nD) (v10 : BitVec 32) (k0_hw1 : k0_chk1 d0 v10), ∀ (k0_h1 : k0_cond1 d0 v10 = 1#1), (k0_dev5 d0 v10) < nD := fun d0 v10 k0_hw1 k0_h1 => k0_hw1.2.2.2.2 k0_h1

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Chunks.lean ====
/-
# The exchange kernel: who talks to whom, the four chunks of a block, and what each buffer ends holding

Sixteen devices form a mesh of sides two, two and four; device `c` stands at `(c / 8, c / 4 % 2, c % 4)`. Its partner
`peer c` is the device that differs from it in the middle coordinate alone. A device's block has 1024 rows; the kernel
moves it in four chunks of 256 rows. This file names the partner, the chunks' rectangles, and the contents the send
buffer, the receive buffer and the result end with; and it says that a store, a landing or a load of one chunk agrees
with those contents on that chunk.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The partner -/

set_option backward.proofsInPublic true in
/-- The device across the middle axis of the mesh. -/
def peer (c : Dev nD) : Dev nD := ⟨c.val / 8 * 8 + (1 - c.val / 4 % 2) * 4 + c.val % 4, by have := c.isLt; unfold nD at *; omega⟩

/-- The partner's partner is the device itself. -/
theorem peer_peer (c : Dev nD) : peer (peer c) = c := by revert c; decide

/-- Being partners, as a matching of the devices with themselves. -/
def partners : Dev nD ≃ Dev nD := ⟨peer, peer, peer_peer, peer_peer⟩

/-- A device's middle coordinate as a 32-bit word. -/
def side (c : Dev nD) : BitVec 32 := BitVec.ofNat 32 (c.val / 4 % 2)

/-- The other middle coordinate as a 32-bit word. -/
def far (c : Dev nD) : BitVec 32 := BitVec.ofNat 32 (1 - c.val / 4 % 2)

/-- A device told to send to the far side sends. -/
theorem cond_far (c : Dev nD) : k0_cond1 c (far c) = 1#1 := by revert c; decide +kernel
/-- The device its signal names is its partner; -/
theorem dev1_far (c : Dev nD) : k0_dev1 c (far c) = (peer c).val := by revert c; decide +kernel
/-- so is the one each of the four copies names. -/
theorem dev2_far (c : Dev nD) : k0_dev2 c (far c) = (peer c).val := by revert c; decide +kernel
theorem dev3_far (c : Dev nD) : k0_dev3 c (far c) = (peer c).val := by revert c; decide +kernel
theorem dev4_far (c : Dev nD) : k0_dev4 c (far c) = (peer c).val := by revert c; decide +kernel
theorem dev5_far (c : Dev nD) : k0_dev5 c (far c) = (peer c).val := by revert c; decide +kernel

/-- Every device number the kernel computes for the far side is a device of the mesh. -/
theorem chk_far (c : Dev nD) : k0_chk1 c (far c) := by
  refine ⟨fun _ => ?_, fun _ => ?_, fun _ => ?_, fun _ => ?_, fun _ => ?_⟩
  · rw [dev1_far]; exact (peer c).isLt
  · rw [dev2_far]; exact (peer c).isLt
  · rw [dev3_far]; exact (peer c).isLt
  · rw [dev4_far]; exact (peer c).isLt
  · rw [dev5_far]; exact (peer c).isLt

/-- A device told to send to the far side does not copy its own block. -/
theorem keep_far (c : Dev nD) :
    Scalar.cmpi .ne (Scalar.extui (Scalar.cmpi .eq (far c) (Scalar.remsi (Scalar.divsi (Dev.word c) 4#32) 2#32)) : BitVec 32) 0#32 ≠ 1#1 := by
  revert c; decide +kernel

/-- A device told to keep to its own side sends nothing, -/
theorem cond_side (c : Dev nD) : k0_cond1 c (side c) ≠ 1#1 := by revert c; decide +kernel
/-- so no device number is asked of it, -/
theorem chk_side (c : Dev nD) : k0_chk1 c (side c) :=
  ⟨fun h => absurd h (cond_side c), fun h => absurd h (cond_side c), fun h => absurd h (cond_side c), fun h => absurd h (cond_side c),
    fun h => absurd h (cond_side c)⟩
/-- and it copies its own block. -/
theorem keep_side (c : Dev nD) :
    Scalar.cmpi .ne (Scalar.extui (Scalar.cmpi .eq (side c) (Scalar.remsi (Scalar.divsi (Dev.word c) 4#32) 2#32)) : BitVec 32) 0#32 = 1#1 := by
  revert c; decide +kernel

/-! ## The chunks -/

/-- Where chunk `k` starts: row `256 k`. -/
def offk (k : Fin 4) : Fin 3 → ℕ := ![0, 256 * k.val, 0]

theorem offk_inb (k : Fin 4) : ∀ a, offk k a + S1x256x1024.size a ≤ S1x1024x1024.size a := by
  revert k; decide

/-- Chunk `k`: rows `256 k` to `256 k + 255`. -/
abbrev chunkR (k : Fin 4) : Rect S1x1024x1024 := Rect.unit (s := S1x1024x1024) (offk k) S1x256x1024.size (offk_inb k)

/-- The indices of chunk `k`. -/
def chunk (k : Fin 4) : Finset S1x1024x1024.Idx := (chunkR k).set

/-- An index lies in chunk `k` exactly when its row does. -/
theorem mem_chunk (k : Fin 4) (i : S1x1024x1024.Idx) : i ∈ chunk k ↔ 256 * k.val ≤ (i 1).val ∧ (i 1).val < 256 * k.val + 256 := by
  unfold chunk
  rw [Rect.mem_set_unit]
  constructor
  · intro h; exact h 1
  · intro h a
    fin_cases a
    · exact ⟨Nat.zero_le _, (i 0).isLt⟩
    · exact h
    · exact ⟨Nat.zero_le _, (i 2).isLt.trans_eq (Nat.zero_add 1024).symm⟩

/-- Different chunks have no index in common; -/
theorem chunk_disjoint (k k' : Fin 4) (h : k ≠ k') : Disjoint (chunk k) (chunk k') := by
  rw [Finset.disjoint_left]
  intro i hi hi'
  rw [mem_chunk] at hi hi'
  exact h (Fin.ext (by omega))

/-- and together they are the block. -/
theorem chunk_cover [DecidableEq S1x1024x1024.Idx] : Finset.univ.biUnion chunk = (Finset.univ : Finset S1x1024x1024.Idx) := by
  ext i
  have hi : (i 1).val < 1024 := (i 1).isLt
  simp only [Finset.mem_biUnion, Finset.mem_univ, true_and, iff_true]
  exact ⟨⟨(i 1).val / 256, by omega⟩, (mem_chunk _ _).mpr ⟨by simp only; omega, by simp only; omega⟩⟩

/-! ## Contents -/

variable (m : (ℓ : Loc nD τ sig) → Buf (Elt F) ℓ) (ρ : Dev nD → PrngReg)

/-- Device `c`'s block of `x`. -/
def xF (c : Dev nD) : FVec F S1x1024x1024 .f32 := m ((c : Thread nD τ).loc main_arg0)

/-- What device `c` sends: its block of `x` in the short format. -/
def sendF (c : Dev nD) : FVec F S1x1024x1024 .bf16 := truncf .bf16 (xF m c) bitsLt_bf16_f32

/-- What device `c` receives: what its partner sends. -/
def recvF (c : Dev nD) : FVec F S1x1024x1024 .bf16 := sendF m (peer c)

/-- What device `c` leaves as its result: what it received, in the long format again. -/
def outF (c : Dev nD) : FVec F S1x1024x1024 .f32 := extf .f32 (recvF m c) bitsLt_bf16_f32

/-- The shortened chunk is stored as it stands: the casts to two axes and back move nothing. -/
theorem short_apply (v : Vec F S1x256x1024 .f32) :
    shapeCast S1x256x1024 (truncf .bf16 (shapeCast S256x1024 v shapeCasts_S1x256x1024_S256x1024 : FVec F S256x1024 .f32) bitsLt_bf16_f32) shapeCasts_S256x1024_S1x256x1024
      = (truncf .bf16 (v : FVec F S1x256x1024 .f32) bitsLt_bf16_f32 : FVec F S1x256x1024 .bf16) :=
  shapeCast_shapeCast (truncf .bf16 (v : FVec F S1x256x1024 .f32) bitsLt_bf16_f32 : FVec F S1x256x1024 .bf16) shapeCasts_S1x256x1024_S256x1024 shapeCasts_S256x1024_S1x256x1024

/-- The lengthened chunk likewise. -/
theorem long_apply (v : Vec F S1x256x1024 .bf16) :
    shapeCast S1x256x1024 (extf .f32 (shapeCast S256x1024 v shapeCasts_S1x256x1024_S256x1024 : FVec F S256x1024 .bf16) bitsLt_bf16_f32) shapeCasts_S256x1024_S1x256x1024
      = (extf .f32 (v : FVec F S1x256x1024 .bf16) bitsLt_bf16_f32 : FVec F S1x256x1024 .f32) :=
  shapeCast_shapeCast (extf .f32 (v : FVec F S1x256x1024 .bf16) bitsLt_bf16_f32 : FVec F S1x256x1024 .f32) shapeCasts_S1x256x1024_S256x1024 shapeCasts_S256x1024_S1x256x1024

/-! ## A store, a landing, a load of one chunk -/

/-- A store of values `w` through rectangle `r` of a buffer leaves the contents `g` there when `w` are `g`'s values there. -/
theorem store_agrees (b : Ref sig .tc) (r : Rect b.ty.shape) (f g : b.ty.Contents (Elt F)) (w : r.shape.Idx → Elt F b.ty.elt)
    (hw : ∀ j, w j = g (r.emb j)) (i : b.ty.shape.Idx) (hi : i ∈ r.set) :
    ((Memref.whole b).access r : View sig .tc _ _ _).write (Elt F) f w Finset.univ i = g i := by
  rw [← View.set_slice_whole b r] at hi
  obtain ⟨j, -, rfl⟩ := Finset.mem_map.mp hi
  exact (View.write_emb_of_mem (v := (View.whole b).slice r) f w (Finset.mem_univ j)).trans (hw j)

/-- The send buffer, the receive buffer, the staged block of `x` and the staged result. -/
abbrev sM : Memref sig .tc .vmem S1x1024x1024 .bf16 := Memref.whole cc0_scratch0
abbrev rM : Memref sig .tc .vmem S1x1024x1024 .bf16 := Memref.whole cc0_scratch1
abbrev xM : Memref sig .tc .vmem S1x1024x1024 .f32 := Memref.whole cc0_stg1_0
abbrev oM : Memref sig .tc .vmem S1x1024x1024 .f32 := Memref.whole cc0_stg2_0

section At

variable (off : Fin 3 → ℕ) (inb : ∀ a, off a + S1x256x1024.size a ≤ S1x1024x1024.size a)

/-- The 256 rows of a buffer from `off`, as the copies name them: in two axes. -/
abbrev rowsOf (b : Memref sig .tc .vmem S1x1024x1024 .bf16) : Memref sig .tc .vmem S256x1024 .bf16 :=
  (b.slice (Rect.unit (s := S1x1024x1024) off S1x256x1024.size inb) (fun _ => rfl)).squeeze S256x1024 squeezes_S1x256x1024_S256x1024

/-- The elements of the send buffer a copy reads, and of the receive buffer it writes, are the rectangle's. -/
theorem rowsOf_s_set : (rowsOf off inb sM).view.set = (Rect.unit (s := S1x1024x1024) off S1x256x1024.size inb).set :=
  (View.set_reshape ((View.whole cc0_scratch0).slice (Rect.unit (s := S1x1024x1024) off S1x256x1024.size inb)) _).trans (View.set_slice_whole cc0_scratch0 _)
theorem rowsOf_r_set : (rowsOf off inb rM).view.set = (Rect.unit (s := S1x1024x1024) off S1x256x1024.size inb).set :=
  (View.set_reshape ((View.whole cc0_scratch1).slice (Rect.unit (s := S1x1024x1024) off S1x256x1024.size inb)) _).trans (View.set_slice_whole cc0_scratch1 _)

/-- What a copy of those rows lands is the sender's contents there: of `fs` in the one buffer into `fd` in the other, the
    result agrees with `fs` on the rectangle. -/
theorem landed_agrees (fs : (cc0_scratch0 : Ref sig .tc).ty.Contents (Elt F)) (fd : (cc0_scratch1 : Ref sig .tc).ty.Contents (Elt F))
    (i : S1x1024x1024.Idx) (hi : i ∈ (Rect.unit (s := S1x1024x1024) off S1x256x1024.size inb).set) :
    (rowsOf off inb rM).view.write (Elt F) fd ((rowsOf off inb sM).view.read (Elt F) fs) Finset.univ i = fs i := by
  rw [← rowsOf_r_set off inb] at hi
  obtain ⟨j, -, rfl⟩ := Finset.mem_map.mp hi
  exact View.write_emb_of_mem (v := (rowsOf off inb rM).view) (Val := Elt F) fd _ (Finset.mem_univ j)

end At

end Cert.Exchange

end
-- ==== Proof.Handshake.lean ====
/-
# The exchange kernel: what its semaphores promise

Every device has nine semaphores that other steps raise. Its barrier is raised once by its partner, and with that signal
the partner hands over its own receive buffer. Its four receive semaphores are raised by the partner's four copies, each
handing over one chunk of the receive buffer with the partner's shortened block in it. Its four send semaphores are
raised by its own copies, each giving back one chunk of the send buffer. This file states those promises, what a device
still owes at each moment, and why each wait may be made while that is owed: a barrier stands below the receive
semaphores, so nobody waits on a barrier for one who is waiting for them.
-/
module

public import proofs.«01_k».proof.Proof.Chunks

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's and the handshake's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## The semaphores -/

abbrev barS : Sem sig := (SemArray.scalar (sig.barrier 0 rfl) : Sems sig S_).sem
set_option backward.proofsInPublic true in
/-- The semaphore copy `k` of a device raises on itself when it has read its chunk; -/
abbrev sndS (k : Fin 4) : DmaSem sig := ⟨3 + k.val, by have := k.isLt; show 3 + k.val < 11; omega⟩
set_option backward.proofsInPublic true in
/-- and the one it raises on its partner when it has landed it. -/
abbrev rcvS (k : Fin 4) : DmaSem sig := ⟨7 + k.val, by have := k.isLt; show 7 + k.val < 11; omega⟩

abbrev barCell (c : Dev nD) : GSem nD τ sig := ((c : Thread nD τ), .reg barS)
abbrev sndCell (c : Dev nD) (k : Fin 4) : GSem nD τ sig := ((c : Thread nD τ), .dma (sndS k))
abbrev rcvCell (c : Dev nD) (k : Fin 4) : GSem nD τ sig := ((c : Thread nD τ), .dma (rcvS k))

/-- The amount a copy of 256 rows raises a semaphore by. -/
abbrev N : ℕ := (rowsOf (offk 0) (offk_inb 0) rM).view.dmaCredit
theorem N_pos : 0 < N := View.dmaCredit_pos _ (by decide)

/-! ## What is handed over -/

/-- Device `c`'s receive buffer, at some contents. -/
def recvAny (c : Dev nD) : sProp 𝕄 := iprop(∃ f : Buf (Elt F) ((c : Thread nD τ).loc cc0_scratch1), ((c : Thread nD τ).loc cc0_scratch1) ↦{fullShare} f)

/-- Chunk `k` of device `c`'s receive buffer, holding `f`'s values there; -/
def rPts (c : Dev nD) (k : Fin 4) (f : FVec F S1x1024x1024 .bf16) : sProp 𝕄 :=
  ((c : Thread nD τ).loc cc0_scratch1) ↦[chunk k]{fullShare} (f : Buf (Elt F) ((c : Thread nD τ).loc cc0_scratch1))
/-- of its send buffer; -/
def sPts (c : Dev nD) (k : Fin 4) (f : FVec F S1x1024x1024 .bf16) : sProp 𝕄 :=
  ((c : Thread nD τ).loc cc0_scratch0) ↦[chunk k]{fullShare} (f : Buf (Elt F) ((c : Thread nD τ).loc cc0_scratch0))
/-- of its staged result. -/
def oPts (c : Dev nD) (k : Fin 4) (f : FVec F S1x1024x1024 .f32) : sProp 𝕄 :=
  ((c : Thread nD τ).loc cc0_stg2_0) ↦[chunk k]{fullShare} (f : Buf (Elt F) ((c : Thread nD τ).loc cc0_stg2_0))

omit [FloatOps F] in
instance recvAny_storable (c : Dev nD) : BI.Storable (upEmb : UEmb _ 𝕄) (recvAny (F := F) c) := by unfold recvAny; infer_instance
omit [FloatOps F] in
instance rPts_storable (c : Dev nD) (k) (f) : BI.Storable (upEmb : UEmb _ 𝕄) (rPts (F := F) c k f) := by unfold rPts; infer_instance
omit [FloatOps F] in
instance sPts_storable (c : Dev nD) (k) (f) : BI.Storable (upEmb : UEmb _ 𝕄) (sPts (F := F) c k f) := by unfold sPts; infer_instance

/-- The chunk a semaphore of a copy stands for. -/
def chunkOf (q : DmaSem sig) : Fin 4 := ⟨(q.val + 1) % 4, Nat.mod_lt _ (by decide)⟩

theorem chunkOf_snd (k : Fin 4) : chunkOf (sndS k) = k := by revert k; decide
theorem chunkOf_rcv (k : Fin 4) : chunkOf (rcvS k) = k := by revert k; decide

/-- What comes with a raise of device `c`'s semaphore: with the barrier's the partner's receive buffer, with a send
    semaphore's the chunk sent, with a receive semaphore's the chunk received. -/
def handed (c : Dev nD) : SemLoc sig → sProp 𝕄
  | .reg _ => recvAny (peer c)
  | .dma q => if q.val < 7 then sPts c (chunkOf q) (sendF m c) else rPts c (chunkOf q) (recvF m c)

instance handed_storable (c : Dev nD) (sm : SemLoc sig) : BI.Storable (upEmb : UEmb _ 𝕄) (handed m c sm) := by
  unfold handed
  cases sm
  · dsimp only; infer_instance
  · dsimp only; split <;> infer_instance

/-- The semaphores the handshake uses: the barrier and the copies' eight. -/
def Talks : SemLoc sig → Prop
  | .reg _ => True
  | .dma q => 3 ≤ q.val

instance (sm : SemLoc sig) : Decidable (Talks sm) := by unfold Talks; cases sm <;> dsimp only <;> infer_instance

/-- One round: each of a device's nine semaphores is raised once, the barrier by one unit, the others by a copy's amount. -/
def talkRd : Rounds.Schedule (GSem nD τ sig) Unit 𝕄 where
  duties g r := if r = 0 ∧ g.1.2 = .tc ∧ Talks g.2 then {()} else ∅
  unitless _ := False
  amount g _ _ := match g.2 with | .reg _ => 1 | .dma _ => N
  payload g _ _ := handed m g.1.1 g.2
  amount_pos g _ _ _ := by
    cases g.2
    · exact Nat.one_pos
    · exact N_pos

instance talkRd_payload_storable (g : GSem nD τ sig) (r : ℕ) (d : Unit) :
    BI.Storable (upEmb : UEmb _ 𝕄) ((talkRd (F := F) m).payload g r d) := by
  show BI.Storable upEmb (handed m g.1.1 g.2); infer_instance

section Sched
variable (c : Dev nD)

theorem duties_of (sm : SemLoc sig) (h : Talks sm) : (talkRd (F := F) m).duties ((c : Thread nD τ), sm) 0 = {()} := by
  dsimp only [talkRd]; exact if_pos ⟨rfl, rfl, h⟩
theorem duties_bar : (talkRd (F := F) m).duties (barCell c) 0 = {()} := duties_of m c _ trivial
theorem duties_snd (k : Fin 4) : (talkRd (F := F) m).duties (sndCell c k) 0 = {()} := duties_of m c _ (Nat.le_add_right 3 _)
theorem duties_rcv (k : Fin 4) : (talkRd (F := F) m).duties (rcvCell c k) 0 = {()} :=
  duties_of m c _ ((by decide : 3 ≤ 7).trans (Nat.le_add_right 7 _))
theorem duties_later (g : GSem nD τ sig) : ∀ r, 1 ≤ r → (talkRd (F := F) m).duties g r = ∅ :=
  fun r hr => by dsimp only [talkRd]; rw [if_neg fun h => by omega]

theorem expect_bar : (talkRd (F := F) m).expect (barCell c) 0 = 1 := by
  unfold Schedule.expect Schedule.amountOf; rw [duties_bar, Finset.sum_singleton]; rfl
theorem expect_snd (k : Fin 4) : (talkRd (F := F) m).expect (sndCell c k) 0 = N := by
  unfold Schedule.expect Schedule.amountOf; rw [duties_snd, Finset.sum_singleton]; rfl
theorem expect_rcv (k : Fin 4) : (talkRd (F := F) m).expect (rcvCell c k) 0 = N := by
  unfold Schedule.expect Schedule.amountOf; rw [duties_rcv, Finset.sum_singleton]; rfl

theorem payload_bar (d : Unit) : (talkRd (F := F) m).payload (barCell c) 0 d = recvAny (peer c) := rfl
theorem payload_snd (k : Fin 4) (d : Unit) : (talkRd (F := F) m).payload (sndCell c k) 0 d = sPts c k (sendF m c) := by
  have h : (sndS k).val < 7 := by have := k.isLt; show 3 + k.val < 7; omega
  show (if (sndS k).val < 7 then sPts c (chunkOf (sndS k)) (sendF m c) else rPts c (chunkOf (sndS k)) (recvF m c) : sProp 𝕄) = _
  rw [if_pos h, chunkOf_snd]
theorem payload_rcv (k : Fin 4) (d : Unit) : (talkRd (F := F) m).payload (rcvCell c k) 0 d = rPts c k (recvF m c) := by
  have h : ¬ (rcvS k).val < 7 := by show ¬ 7 + k.val < 7; omega
  show (if (rcvS k).val < 7 then sPts c (chunkOf (rcvS k)) (sendF m c) else rPts c (chunkOf (rcvS k)) (recvF m c) : sProp 𝕄) = _
  rw [if_neg h, chunkOf_rcv]

theorem rest_bar : bigSep ((talkRd (F := F) m).duties (barCell c) 0 \ ∅) (fun d => (talkRd (F := F) m).payload (barCell c) 0 d) = recvAny (peer c) := by
  rw [Finset.sdiff_empty, duties_bar, bigSep_singleton, payload_bar]
theorem rest_snd (k : Fin 4) : bigSep ((talkRd (F := F) m).duties (sndCell c k) 0 \ ∅) (fun d => (talkRd (F := F) m).payload (sndCell c k) 0 d) = sPts c k (sendF m c) := by
  rw [Finset.sdiff_empty, duties_snd, bigSep_singleton, payload_snd]
theorem rest_rcv (k : Fin 4) : bigSep ((talkRd (F := F) m).duties (rcvCell c k) 0 \ ∅) (fun d => (talkRd (F := F) m).payload (rcvCell c k) 0 d) = rPts c k (recvF m c) := by
  rw [Finset.sdiff_empty, duties_rcv, bigSep_singleton, payload_rcv]

end Sched

/-! ## What a device owes -/

/-- What device `c` owes its partner's receive semaphores when its last `n` copies are still to be made. -/
def owed (c : Dev nD) : ℕ → CellTallies nD τ sig Unit
  | 0 => 0
  | n + 1 => owed c n + tallyAt (rcvCell (peer c) (Fin.ofNat 4 (3 - n))) () N

/-- What it owes at launch: four copies, and before them the signal. -/
def O₀ (c : Dev nD) : CellTallies nD τ sig Unit := owed c 4 + tallyAt (barCell (peer c)) () 1

def L (g : GSem nD τ sig) : Finset Unit := if g.1.2 = .tc then {()} else ∅
/-- Receive semaphores stand above barriers, and barriers above everything else. -/
def lv (g : GSem nD τ sig) (_ : Unit) : ℕ := match g.2 with | .reg _ => 1 | .dma q => if 7 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) (k : Fin 4) (u : Unit) : lv (rcvCell c k) u = 2 := if_pos (Nat.le_add_right 7 _)

theorem owed_pos {c : Dev nD} {n : ℕ} {g : GSem nD τ sig} {u : Unit} (h : 0 < owed c n g u) : ∃ k, g = rcvCell (peer c) k := by
  induction n with
  | zero => exact absurd h (Nat.lt_irrefl 0)
  | succ n ih =>
    unfold owed at h
    rw [Pi.add_apply, Finsupp.add_apply, tallyAt_apply] at h
    by_cases hg : g = rcvCell (peer c) (Fin.ofNat 4 (3 - n))
    · exact ⟨_, hg⟩
    · rw [if_neg (fun h' => hg h'.1), Nat.add_zero] at h; exact ih h

theorem O₀_pos {c : Dev nD} {g : GSem nD τ sig} {u : Unit} (h : 0 < O₀ c g u) : (∃ k, g = rcvCell (peer c) k) ∨ g = barCell (peer c) := by
  unfold O₀ at h
  rw [Pi.add_apply, Finsupp.add_apply, tallyAt_apply] at h
  by_cases hg : g = barCell (peer c)
  · exact Or.inr hg
  · rw [if_neg (fun h' => hg h'.1), Nat.add_zero] at h; exact Or.inl (owed_pos h)

/-- The pipeline's own waits, before the body and after it, may be made. -/
theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; exact le_of_eq (if_neg (by omega)))
      (fun g u hg => by
        rcases O₀_pos hg with ⟨k, rfl⟩ | rfl
        · rw [lv_rcv]; decide
        · exact Nat.one_pos)
  · rw [MayWait_zero]; iintro -; iempintro

/-- The wait on the barrier may be made while the copies are owed. -/
theorem mayWait_bar (c : Dev nD) (n : ℕ) : (levAts L lv : sProp 𝕄) ⊢ MayWait (c : Thread nD τ) (.reg barS) () (owed c n) :=
  MayOwe.of_cut (L := L) (lev := lv) 1 (fun p hp => by rw [Finset.mem_singleton.mp hp, L_tc]; exact Finset.mem_singleton_self _)
    (fun g u hg => by obtain ⟨k, rfl⟩ := owed_pos hg; exact Finset.mem_singleton_self _)
    (fun p hp => by rw [Finset.mem_singleton.mp hp]; exact le_refl 1)
    (fun g u hg => by obtain ⟨k, rfl⟩ := owed_pos hg; rw [lv_rcv]; decide)

/-! ## The nine semaphores of a device, numbered -/

/-- The barrier, the four send semaphores, the four receive semaphores. -/
abbrev csem : Fin 9 → SemLoc sig := fun
  | 0 => .reg barS | 1 => .dma (sndS 0) | 2 => .dma (sndS 1) | 3 => .dma (sndS 2) | 4 => .dma (sndS 3)
  | 5 => .dma (rcvS 0) | 6 => .dma (rcvS 1) | 7 => .dma (rcvS 2) | 8 => .dma (rcvS 3)
abbrev kcell (ck : Dev nD × Fin 9) : GSem nD τ sig := ((ck.1 : Thread nD τ), csem ck.2)

/-- The numbers of the send and of the receive semaphore of chunk `k`. -/
def sndI (k : Fin 4) : Fin 9 := ⟨1 + k.val, by have := k.isLt; omega⟩
def rcvI (k : Fin 4) : Fin 9 := ⟨5 + k.val, by have := k.isLt; omega⟩
theorem kcell_snd (c : Dev nD) (k : Fin 4) : kcell (c, sndI k) = sndCell c k := by fin_cases k <;> rfl
theorem kcell_rcv (c : Dev nD) (k : Fin 4) : kcell (c, rcvI k) = rcvCell c k := by fin_cases k <;> rfl

/-- Every semaphore's promise, under the names `K`, and that all are at their first round. -/
def records (K : Dev nD × Fin 9 → ℕ) : sProp 𝕄 :=
  iprop((bigSep Finset.univ fun ck : Dev nD × Fin 9 => cellInv ER (talkRd m) (K ck) (kcell ck))
    ∗ bigSep Finset.univ fun ck : Dev nD × Fin 9 => reached ER (kcell ck) 0)

instance records_persistent (K : Dev nD × Fin 9 → ℕ) : BI.Persistent (records m K) := by unfold records; infer_instance

theorem records_at (K : Dev nD × Fin 9 → ℕ) (ck : Dev nD × Fin 9) :
    records m K ⊢ iprop(cellInv ER (talkRd m) (K ck) (kcell ck) ∗ reached ER (kcell ck) 0) := by
  unfold records
  iintro ⟨#HI, #HR⟩
  isplitr
  · iapply (show _ ⊢ _ from bigSep_elim (Φ := fun ck : Dev nD × Fin 9 => (cellInv ER (talkRd m) (K ck) (kcell ck) : sProp 𝕄)) (Finset.mem_univ ck)); iexact HI
  · iapply (show _ ⊢ _ from bigSep_elim (Φ := fun ck : Dev nD × Fin 9 => (reached ER (kcell ck) 0 : sProp 𝕄)) (Finset.mem_univ ck)); iexact HR

theorem records_bar (K : Dev nD × Fin 9 → ℕ) (c : Dev nD) :
    records m K ⊢ iprop(cellInv ER (talkRd m) (K (c, 0)) (barCell c) ∗ reached ER (barCell c) 0) := records_at m K (c, 0)
theorem records_snd (K : Dev nD × Fin 9 → ℕ) (c : Dev nD) (k : Fin 4) :
    records m K ⊢ iprop(cellInv ER (talkRd m) (K (c, sndI k)) (sndCell c k) ∗ reached ER (sndCell c k) 0) := by
  have := records_at m K (c, sndI k); rwa [kcell_snd] at this
theorem records_rcv (K : Dev nD × Fin 9 → ℕ) (c : Dev nD) (k : Fin 4) :
    records m K ⊢ iprop(cellInv ER (talkRd m) (K (c, rcvI k)) (rcvCell c k) ∗ reached ER (rcvCell c k) 0) := by
  have := records_at m K (c, rcvI k); rwa [kcell_rcv] at this

end Cert.Exchange

end
-- ==== Proof.Steps.lean ====
/-
# The exchange kernel: its steps

One lemma for each kind of step the kernel makes: the signal to the partner, the wait on the barrier, a copy of a chunk,
the waits for a chunk sent and for a chunk received, and the loads and stores of a chunk of a buffer held in chunks. Each
names the chunk it is about, and takes the offsets and the semaphores the program writes as equal to that chunk's.
-/
module

public import proofs.«01_k».proof.Proof.Handshake

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 9 → ℕ)

abbrev 𝒱₀ : Variants := Variants.none

/-! ## Buffers in chunks -/

/-- A send buffer held whole is held in four chunks; -/
theorem split_s (c : Dev nD) (f : FVec F S1x1024x1024 .bf16) :
    (((c : Thread nD τ).loc cc0_scratch0) ↦{fullShare} (f : Buf (Elt F) ((c : Thread nD τ).loc cc0_scratch0)) : sProp 𝕄)
      = iprop(sPts c 0 f ∗ sPts c 1 f ∗ sPts c 2 f ∗ sPts c 3 f) := by
  have h := Ring.pointsTo_blocks (nD := nD) (τ := τ) (sig := sig) (Ix := Unit) (Val := Elt F) (Name := ℕ) (U := UU) (Lvl := ℕ)
    (ℓ := (c : Thread nD τ).loc cc0_scratch0) (B := Fin 4) chunk chunk_disjoint chunk_cover (q := fullShare) f
  exact h.trans (bigSep_univ_eq_bigSepL [0, 1, 2, 3] (by decide) (by decide) fun k => sPts c k f)
/-- so is a receive buffer; -/
theorem split_r (c : Dev nD) (f : FVec F S1x1024x1024 .bf16) :
    (((c : Thread nD τ).loc cc0_scratch1) ↦{fullShare} (f : Buf (Elt F) ((c : Thread nD τ).loc cc0_scratch1)) : sProp 𝕄)
      = iprop(rPts c 0 f ∗ rPts c 1 f ∗ rPts c 2 f ∗ rPts c 3 f) := by
  have h := Ring.pointsTo_blocks (nD := nD) (τ := τ) (sig := sig) (Ix := Unit) (Val := Elt F) (Name := ℕ) (U := UU) (Lvl := ℕ)
    (ℓ := (c : Thread nD τ).loc cc0_scratch1) (B := Fin 4) chunk chunk_disjoint chunk_cover (q := fullShare) f
  exact h.trans (bigSep_univ_eq_bigSepL [0, 1, 2, 3] (by decide) (by decide) fun k => rPts c k f)
/-- so is a staged result. -/
theorem split_o (c : Dev nD) (f : FVec F S1x1024x1024 .f32) :
    (((c : Thread nD τ).loc cc0_stg2_0) ↦{fullShare} (f : Buf (Elt F) ((c : Thread nD τ).loc cc0_stg2_0)) : sProp 𝕄)
      = iprop(oPts c 0 f ∗ oPts c 1 f ∗ oPts c 2 f ∗ oPts c 3 f) := by
  have h := Ring.pointsTo_blocks (nD := nD) (τ := τ) (sig := sig) (Ix := Unit) (Val := Elt F) (Name := ℕ) (U := UU) (Lvl := ℕ)
    (ℓ := (c : Thread nD τ).loc cc0_stg2_0) (B := Fin 4) chunk chunk_disjoint chunk_cover (q := fullShare) f
  exact h.trans (bigSep_univ_eq_bigSepL [0, 1, 2, 3] (by decide) (by decide) fun k => oPts c k f)

/-! ## Loads and stores of a chunk -/

section Chunk

variable (c : Dev nD) (k : Fin 4) (off : Fin 3 → ℕ) (inb : ∀ a, off a + S1x256x1024.size a ≤ S1x1024x1024.size a)

/-- A load of chunk `k` of the send buffer needs that chunk alone; -/
theorem wp_load_s {α : Type} {Q : α → sProp 𝕄} (f : FVec F S1x1024x1024 .bf16)
    {hl : (sM : Memref sig .tc .vmem S1x1024x1024 .bf16).view.LoadsAt (Rect.unit (s := S1x1024x1024) off S1x256x1024.size inb).toLoadRect}
    {kont : Vec F S1x256x1024 .bf16 → Prog (TpuEff nD τ sig (Elt F) Λ₀ .tc) α} (hoff : off = offk k) :
    sPts c k f ⊢ iprop((sPts c k f -∗ wp frame (wpE (defs₀ (F := F)) 𝒱₀ (c : Thread nD τ) none) Set.univ
          (kont fun j => f ((Rect.unit (s := S1x1024x1024) off S1x256x1024.size inb).emb j)) Q)
        -∗ wp frame (wpE (defs₀ (F := F)) 𝒱₀ (c : Thread nD τ) none) Set.univ
          (.op (.load sM (Rect.unit (s := S1x1024x1024) off S1x256x1024.size inb).toLoadRect hl) kont) Q) := by
  subst hoff
  have h := wp_load_rect (defs := defs₀ (F := F)) (Ix := Unit) (Name := ℕ) (U := UU) (Lvl := ℕ) (Q := Q) (Γ := .empty) 𝒱₀ (c : Thread nD τ) none Set.univ
    (m := sM) (r := chunkR k) (hl := hl) (k := kont) (q := fullShare) (S := chunk k) (f := f) (View.set_slice_whole cc0_scratch0 (chunkR k)).subset
  exact h

/-- of the receive buffer likewise, -/
theorem wp_load_r {α : Type} {Q : α → sProp 𝕄} (f : FVec F S1x1024x1024 .bf16)
    {hl : (rM : Memref sig .tc .vmem S1x1024x1024 .bf16).view.LoadsAt (Rect.unit (s := S1x1024x1024) off S1x256x1024.size inb).toLoadRect}
    {kont : Vec F S1x256x1024 .bf16 → Prog (TpuEff nD τ sig (Elt F) Λ₀ .tc) α} (hoff : off = offk k) :
    rPts c k f ⊢ iprop((rPts c k f -∗ wp frame (wpE (defs₀ (F := F)) 𝒱₀ (c : Thread nD τ) none) Set.univ
          (kont fun j => f ((Rect.unit (s := S1x1024x1024) off S1x256x1024.size inb).emb j)) Q)
        -∗ wp frame (wpE (defs₀ (F := F)) 𝒱₀ (c : Thread nD τ) none) Set.univ
          (.op (.load rM (Rect.unit (s := S1x1024x1024) off S1x256x1024.size inb).toLoadRect hl) kont) Q) := by
  subst hoff
  have h := wp_load_rect (defs := defs₀ (F := F)) (Ix := Unit) (Name := ℕ) (U := UU) (Lvl := ℕ) (Q := Q) (Γ := .empty) 𝒱₀ (c : Thread nD τ) none Set.univ
    (m := rM) (r := chunkR k) (hl := hl) (k := kont) (q := fullShare) (S := chunk k) (f := f) (View.set_slice_whole cc0_scratch1 (chunkR k)).subset
  exact h

/-- and of the staged result. -/
theorem wp_load_o {α : Type} {Q : α → sProp 𝕄} (f : FVec F S1x1024x1024 .f32)
    {hl : (oM : Memref sig .tc .vmem S1x1024x1024 .f32).view.LoadsAt (Rect.unit (s := S1x1024x1024) off S1x256x1024.size inb).toLoadRect}
    {kont : Vec F S1x256x1024 .f32 → Prog (TpuEff nD τ sig (Elt F) Λ₀ .tc) α} (hoff : off = offk k) :
    oPts c k f ⊢ iprop((oPts c k f -∗ wp frame (wpE (defs₀ (F := F)) 𝒱₀ (c : Thread nD τ) none) Set.univ
          (kont fun j => f ((Rect.unit (s := S1x1024x1024) off S1x256x1024.size inb).emb j)) Q)
        -∗ wp frame (wpE (defs₀ (F := F)) 𝒱₀ (c : Thread nD τ) none) Set.univ
          (.op (.load oM (Rect.unit (s := S1x1024x1024) off S1x256x1024.size inb).toLoadRect hl) kont) Q) := by
  subst hoff
  have h := wp_load_rect (defs := defs₀ (F := F)) (Ix := Unit) (Name := ℕ) (U := UU) (Lvl := ℕ) (Q := Q) (Γ := .empty) 𝒱₀ (c : Thread nD τ) none Set.univ
    (m := oM) (r := chunkR k) (hl := hl) (k := kont) (q := fullShare) (S := chunk k) (f := f) (View.set_slice_whole cc0_stg2_0 (chunkR k)).subset
  exact h

/-- A load of rows of the staged block of `x`, held whole. -/
theorem wp_load_x {α : Type} {Q : α → sProp 𝕄} (f : FVec F S1x1024x1024 .f32)
    {hl : (xM : Memref sig .tc .vmem S1x1024x1024 .f32).view.LoadsAt (Rect.unit (s := S1x1024x1024) off S1x256x1024.size inb).toLoadRect}
    {kont : Vec F S1x256x1024 .f32 → Prog (TpuEff nD τ sig (Elt F) Λ₀ .tc) α} :
    (((c : Thread nD τ).loc cc0_stg1_0) ↦{fullShare} (f : Buf (Elt F) ((c : Thread nD τ).loc cc0_stg1_0)) : sProp 𝕄)
      ⊢ iprop(((((c : Thread nD τ).loc cc0_stg1_0) ↦{fullShare} (f : Buf (Elt F) ((c : Thread nD τ).loc cc0_stg1_0)))
            -∗ wp frame (wpE (defs₀ (F := F)) 𝒱₀ (c : Thread nD τ) none) Set.univ
          (kont fun j => f ((Rect.unit (s := S1x1024x1024) off S1x256x1024.size inb).emb j)) Q)
        -∗ wp frame (wpE (defs₀ (F := F)) 𝒱₀ (c : Thread nD τ) none) Set.univ
          (.op (.load xM (Rect.unit (s := S1x1024x1024) off S1x256x1024.size inb).toLoadRect hl) kont) Q) := by
  have h := wp_load_rect (defs := defs₀ (F := F)) (Ix := Unit) (Name := ℕ) (U := UU) (Lvl := ℕ) (Q := Q) (Γ := .empty) 𝒱₀ (c : Thread nD τ) none Set.univ
    (m := xM) (r := Rect.unit (s := S1x1024x1024) off S1x256x1024.size inb) (hl := hl) (k := kont) (q := fullShare) (S := Finset.univ) (f := f) (Finset.subset_univ _)
  exact h

/-- A store to chunk `k` of the send buffer of values that are `g`'s there leaves it holding `g`; -/
theorem wp_store_s {α : Type} {Q : α → sProp 𝕄} (f g : FVec F S1x1024x1024 .bf16) {w : Vec F S1x256x1024 .bf16}
    {hx : ((sM : Memref sig .tc .vmem S1x1024x1024 .bf16).access (Rect.unit (s := S1x1024x1024) off S1x256x1024.size inb) : View sig .tc _ _ _).Stores Finset.univ}
    {hm : Finset.univ = (Finset.univ : Finset S1x256x1024.Idx) ∨ ∀ a, (Rect.unit (s := S1x1024x1024) off S1x256x1024.size inb).stride a = 1}
    {kont : PUnit → Prog (TpuEff nD τ sig (Elt F) Λ₀ .tc) α}
    (hoff : off = offk k) (hw : ∀ j, w j = g ((Rect.unit (s := S1x1024x1024) off S1x256x1024.size inb).emb j)) :
    sPts c k f ⊢ iprop((sPts c k g -∗ wp frame (wpE (defs₀ (F := F)) 𝒱₀ (c : Thread nD τ) none) Set.univ (kont ⟨⟩) Q)
        -∗ wp frame (wpE (defs₀ (F := F)) 𝒱₀ (c : Thread nD τ) none) Set.univ
          (.op (.store sM (Rect.unit (s := S1x1024x1024) off S1x256x1024.size inb) w Finset.univ hx hm) kont) Q) := by
  subst hoff
  have h := wp_store (defs := defs₀ (F := F)) (Ix := Unit) (Name := ℕ) (U := UU) (Lvl := ℕ) (Q := Q) (Γ := .empty) 𝒱₀ (c : Thread nD τ) none Set.univ (m := sM) (r := chunkR k) (w := w) (Mk := Finset.univ) (hx := hx) (hm := hm) (k := kont) (S := chunk k)
    (f := f) (View.set_slice_whole cc0_scratch0 (chunkR k)).subset
  rwa [show ((((sM : Memref sig .tc .vmem S1x1024x1024 .bf16).access (chunkR k) : View sig .tc _ _ _).loc (c : Thread nD τ)) ↦[chunk k]{fullShare}
      (((sM : Memref sig .tc .vmem S1x1024x1024 .bf16).access (chunkR k) : View sig .tc _ _ _).write (Elt F) f w Finset.univ) : sProp 𝕄) = sPts c k g from
    pointsTo_congr (store_agrees cc0_scratch0 (chunkR k) f g w hw)] at h

/-- to chunk `k` of the staged result likewise. -/
theorem wp_store_o {α : Type} {Q : α → sProp 𝕄} (f g : FVec F S1x1024x1024 .f32) {w : Vec F S1x256x1024 .f32}
    {hx : ((oM : Memref sig .tc .vmem S1x1024x1024 .f32).access (Rect.unit (s := S1x1024x1024) off S1x256x1024.size inb) : View sig .tc _ _ _).Stores Finset.univ}
    {hm : Finset.univ = (Finset.univ : Finset S1x256x1024.Idx) ∨ ∀ a, (Rect.unit (s := S1x1024x1024) off S1x256x1024.size inb).stride a = 1}
    {kont : PUnit → Prog (TpuEff nD τ sig (Elt F) Λ₀ .tc) α}
    (hoff : off = offk k) (hw : ∀ j, w j = g ((Rect.unit (s := S1x1024x1024) off S1x256x1024.size inb).emb j)) :
    oPts c k f ⊢ iprop((oPts c k g -∗ wp frame (wpE (defs₀ (F := F)) 𝒱₀ (c : Thread nD τ) none) Set.univ (kont ⟨⟩) Q)
        -∗ wp frame (wpE (defs₀ (F := F)) 𝒱₀ (c : Thread nD τ) none) Set.univ
          (.op (.store oM (Rect.unit (s := S1x1024x1024) off S1x256x1024.size inb) w Finset.univ hx hm) kont) Q) := by
  subst hoff
  have h := wp_store (defs := defs₀ (F := F)) (Ix := Unit) (Name := ℕ) (U := UU) (Lvl := ℕ) (Q := Q) (Γ := .empty) 𝒱₀ (c : Thread nD τ) none Set.univ (m := oM) (r := chunkR k) (w := w) (Mk := Finset.univ) (hx := hx) (hm := hm) (k := kont) (S := chunk k)
    (f := f) (View.set_slice_whole cc0_stg2_0 (chunkR k)).subset
  rwa [show ((((oM : Memref sig .tc .vmem S1x1024x1024 .f32).access (chunkR k) : View sig .tc _ _ _).loc (c : Thread nD τ)) ↦[chunk k]{fullShare}
      (((oM : Memref sig .tc .vmem S1x1024x1024 .f32).access (chunkR k) : View sig .tc _ _ _).write (Elt F) f w Finset.univ) : sProp 𝕄) = oPts c k g from
    pointsTo_congr (store_agrees cc0_stg2_0 (chunkR k) f g w hw)] at h

end Chunk

/-! ## The signal, the copies and the waits -/

section Talk

variable (c : Dev nD) {α : Type} {kont : PUnit → Prog (TpuEff nD τ sig (Elt F) Λ₀ .tc) α} (W : Waits sig Unit)

/-- The signal to the partner hands it this device's receive buffer. -/
theorem wp_signal_peer {Q : α → sProp 𝕄} (n : Dev nD) (hn : n = peer c) :
    iprop(records m K ∗ owes (c : Thread nD τ) (O₀ c) W ∗ dutyTok ER (barCell (peer c)) 0 () ∗ recvAny c)
      ⊢ iprop((owes (c : Thread nD τ) (owed c 4) W -∗ wp frame (wpE (defs₀ (F := F)) 𝒱₀ (c : Thread nD τ) none) Set.univ (kont ⟨⟩) Q)
        -∗ wp frame (wpE (defs₀ (F := F)) 𝒱₀ (c : Thread nD τ) none) Set.univ (.op (.semSignal (n : Thread nD τ) barS 1) kont) Q) := by
  subst hn
  iintro ⟨#HR, HO, Ht, Hr⟩ Hk
  ihave H := (records_bar m K (peer c)) $$ HR
  icases H with ⟨#HI, #HB⟩
  iapply (Rounds.wp_signal 𝒱₀ ER (talkRd m) (c : Thread nD τ) none (dst := (peer c : Thread nD τ)) (κ := K (peer c, 0))
      (d := ()) (by rw [duties_bar]; exact Finset.mem_singleton_self _) rfl () (owed c 4) rfl) $$ [HO Ht Hr]
  · isplitr; · iexact HI
    isplitl [HO]; · iexact HO
    isplitl [Ht]; · iexact Ht
    isplitl [Hr]; · rw [payload_bar, peer_peer]; iexact Hr
    iexact HB
  iexact Hk

/-- The wait on the barrier brings the partner's receive buffer. -/
theorem wp_wait_bar {Q : α → sProp 𝕄} :
    iprop(records m K ∗ levAts L lv ∗ cred (tallyAt (barCell c) () 1) ∗ owes (c : Thread nD τ) (owed c 4) W ∗ atPos ER (barCell c) 0 ∅ 0)
      ⊢ iprop(((owes (c : Thread nD τ) (owed c 4) (insert (SemLoc.reg barS, ()) W) ∗ atPos ER (barCell c) 1 ∅ 0 ∗ recvAny (peer c))
            -∗ wp frame (wpE (defs₀ (F := F)) 𝒱₀ (c : Thread nD τ) none) Set.univ (kont ⟨⟩) Q)
        -∗ wp frame (wpE (defs₀ (F := F)) 𝒱₀ (c : Thread nD τ) none) Set.univ (.op (.semWait barS 1) kont) Q) := by
  iintro ⟨#HR, #Hlev, Hc, HO, Hat⟩ Hk
  ihave H := (records_bar m K c) $$ HR
  icases H with ⟨#HI, #HB⟩
  iapply (Rounds.wp_wait_rest_token 𝒱₀ ER (talkRd m) (c : Thread nD τ) none (κ := K (c, 0))
      (wpE_semWait_eq 𝒱₀ (c : Thread nD τ) none Set.univ) (Set.mem_univ _) () (O := owed c 4) (W := W) (R := 0) (m := 0) (T := ∅)
      (by rw [expect_bar])) $$ [Hc HO Hat]
  · isplitr; · iexact HI
    isplitl [Hc]; · iexact Hc
    isplitl [HO]; · iexact HO
    isplitr; · iapply (mayWait_bar c 4); iexact Hlev
    iexact Hat
  iintro ⟨HO, Hat, -, Hpay⟩
  ihave Hp := (Entails.of_eq (rest_bar m c)) $$ Hpay
  iapply Hk
  isplitl [HO]; · iexact HO
  isplitl [Hat] <;> iassumption

/-- Copy `k` sends chunk `k` of the shortened block into chunk `k` of the partner's receive buffer. -/
theorem wp_copy {Q : α → sProp 𝕄} (k : Fin 4) (n : Dev nD) (hn : n = peer c) (off : Fin 3 → ℕ) (inb : ∀ a, off a + S1x256x1024.size a ≤ S1x1024x1024.size a)
    (hoff : off = offk k) (qs qr : DmaSem sig) (hqs : qs = sndS k) (hqr : qr = rcvS k)
    {hsc : (rowsOf off inb rM : Memref sig (Dev.tc n : Thread nD τ).2.kind .vmem S256x1024 .bf16).view.ref.isScScratch = false}
    {hsrc : (rowsOf off inb sM).view.WordExact} {hdst : (rowsOf off inb rM).view.WordExact}
    {hsem : DmaTarget.Typed .vmem (.dma qr) (.remote (Dev.tc n : Thread nD τ) (rowsOf off inb rM) (.dma qs) hsc)}
    (fd : FVec F S1x1024x1024 .bf16) (O O' : CellTallies nD τ sig Unit) (hO : O' = O + tallyAt (rcvCell (peer c) k) () N) :
    iprop(records m K ∗ sPts c k (sendF m c) ∗ rPts (peer c) k fd ∗ owes (c : Thread nD τ) O' W
        ∗ dutyTok ER (sndCell c k) 0 () ∗ dutyTok ER (rcvCell (peer c) k) 0 ())
      ⊢ iprop(((cred (tallyAt (sndCell c k) () N) ∗ owes (c : Thread nD τ) O W) -∗ wp frame (wpE (defs₀ (F := F)) 𝒱₀ (c : Thread nD τ) none) Set.univ (kont ⟨⟩) Q)
        -∗ wp frame (wpE (defs₀ (F := F)) 𝒱₀ (c : Thread nD τ) none) Set.univ
          (.op (.enqueueDma (rowsOf off inb sM) (.remote (Dev.tc n : Thread nD τ) (rowsOf off inb rM) (.dma qs) hsc) (.dma qr) hsrc hdst hsem) kont) Q) := by
  subst hn hoff hqs hqr
  iintro ⟨#HR, Hs, Hr, HO, Hts, Htr⟩ Hk
  ihave H := (records_snd m K c k) $$ HR
  icases H with ⟨#HIs, #HBs⟩
  ihave H := (records_rcv m K (peer c) k) $$ HR
  icases H with ⟨#HIr, #HBr⟩
  have hset_s : (rowsOf (offk k) inb sM).view.set = chunk k := rowsOf_s_set _ _
  have hset_r : (rowsOf (offk k) inb rM).view.set = chunk k := rowsOf_r_set _ _
  have h := Rounds.wp_send_pointsTo (defs := defs₀ (F := F)) (Ix := Unit) (Name := ℕ) (Lvl := ℕ) (Q := Q) (Γ := .empty) 𝒱₀ ER (talkRd m) (c : Thread nD τ) none (κ₁ := K (c, sndI k)) (κ₂ := K (peer c, rcvI k))
    (c' := (peer c : Thread nD τ)) (src := rowsOf (offk k) inb sM) (dst := rowsOf (offk k) inb rM) (sS := .dma (sndS k)) (sem := .dma (rcvS k))
    (hsc := hsc) (hsrc := hsrc) (hdst := hdst) (hsem := hsem) (k := kont) (Es := Set.univ) (q := fullShare) (fs := sendF m c)
    (r₁ := 0) (r₂ := 0) (d₁ := ()) (d₂ := ()) (fd := fd)
    (by rw [duties_snd]; exact Finset.mem_singleton_self _) (by rw [duties_rcv]; exact Finset.mem_singleton_self _)
    () () N rfl rfl rfl O hO (W := W)
    (by rw [payload_snd, hset_s]; exact BI.Entails.refl _)
    (by rw [payload_rcv, hset_r]; unfold rPts recvF; rw [peer_peer]
        exact Entails.of_eq (pointsTo_congr (landed_agrees (offk k) inb (sendF m c) fd)))
  unfold sPts rPts
  iapply h $$ [Hs Hr HO Hts Htr]
  · isplitr; · iexact HIs
    isplitr; · iexact HIr
    isplitl [Hs]; · rw [hset_s]; iexact Hs
    isplitl [Hr]; · rw [hset_r]; iexact Hr
    isplitl [HO]; · iexact HO
    isplitl [Hts]; · iexact Hts
    isplitr; · iexact HBs
    isplitl [Htr]; · iexact Htr
    iexact HBr
  iexact Hk

/-- The wait for chunk `k` received brings it, holding what the partner sent. -/
theorem wp_wait_rcv {Q : α → sProp 𝕄} (k : Fin 4) (off : Fin 3 → ℕ) (inb : ∀ a, off a + S1x256x1024.size a ≤ S1x1024x1024.size a)
    (qr : DmaSem sig) (hqr : qr = rcvS k)
    {hsrc : (rowsOf off inb sM).view.WordExact} {hdst : (rowsOf off inb rM).view.WordExact} :
    iprop(records m K ∗ cred (tallyAt (rcvCell c k) () N) ∗ owes (c : Thread nD τ) 0 W ∗ atPos ER (rcvCell c k) 0 ∅ 0)
      ⊢ iprop(((owes (c : Thread nD τ) 0 (insert (SemLoc.dma (rcvS k), ()) W) ∗ atPos ER (rcvCell c k) 1 ∅ 0 ∗ rPts c k (recvF m c))
            -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 qr (rowsOf off inb sM) (rowsOf off inb rM) hsrc hdst) kont) Q) := by
  subst hqr
  iintro ⟨#HR, Hc, HO, Hat⟩ Hk
  ihave H := (records_rcv m K c k) $$ HR
  icases H with ⟨#HI, #HB⟩
  iapply (Rounds.wp_wait_rest_token 𝒱₀ ER (talkRd m) (c : Thread nD τ) none (κ := K (c, rcvI k))
      (wpE_waitDma2_eq (defs := defs₀ (F := F)) (sem := rcvS k) (src := rowsOf off inb sM) (dst := rowsOf off inb rM) (hsrc := hsrc) (hdst := hdst) 𝒱₀ (c : Thread nD τ) none Set.univ)
      (Set.mem_univ _) () (O := 0) (W := W) (R := 0) (m := 0) (T := ∅) ((Nat.zero_add _).trans (expect_rcv m c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_rcv m c k)) $$ Hpay
  iapply Hk
  isplitl [HO]; · iexact HO
  isplitl [Hat] <;> iassumption

/-- The wait for chunk `k` sent brings the chunk back. -/
theorem wp_wait_snd {Q : α → sProp 𝕄} (k : Fin 4) (off : Fin 3 → ℕ) (inb : ∀ a, off a + S1x256x1024.size a ≤ S1x1024x1024.size a)
    (qs : DmaSem sig) (hqs : qs = sndS k)
    {hsrc : (rowsOf off inb rM).view.WordExact} {hdst : (rowsOf off inb sM).view.WordExact} :
    iprop(records m K ∗ cred (tallyAt (sndCell c k) () N) ∗ owes (c : Thread nD τ) 0 W ∗ atPos ER (sndCell c k) 0 ∅ 0)
      ⊢ iprop(((owes (c : Thread nD τ) 0 (insert (SemLoc.dma (sndS k), ()) W) ∗ atPos ER (sndCell c k) 1 ∅ 0 ∗ sPts c k (sendF m c))
            -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 qs (rowsOf off inb rM) (rowsOf off inb sM) hsrc hdst) kont) Q) := by
  subst hqs
  iintro ⟨#HR, Hc, HO, Hat⟩ Hk
  ihave H := (records_snd m K c k) $$ HR
  icases H with ⟨#HI, #HB⟩
  iapply (Rounds.wp_wait_rest_token 𝒱₀ ER (talkRd m) (c : Thread nD τ) none (κ := K (c, sndI k))
      (wpE_waitDma2_eq (defs := defs₀ (F := F)) (sem := sndS k) (src := rowsOf off inb rM) (dst := rowsOf off inb sM) (hsrc := hsrc) (hdst := hdst) 𝒱₀ (c : Thread nD τ) none Set.univ)
      (Set.mem_univ _) () (O := 0) (W := W) (R := 0) (m := 0) (T := ∅) ((Nat.zero_add _).trans (expect_snd m c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_snd m c k)) $$ Hpay
  iapply Hk
  isplitl [HO]; · iexact HO
  isplitl [Hat] <;> iassumption

/-- A semaphore whose one round is over closes at zero. -/
theorem close_bar : iprop(records m K ∗ atPos ER (barCell c) 1 ∅ 0) ⊢ (|={Set.univ}=> semVal (barCell c) 0 : sProp 𝕄) :=
  (sep_mono_left ((records_bar m K c).trans (by iintro ⟨H, -⟩; iexact H))).trans
    (Rounds.cell_close ER (talkRd m) (Set.mem_univ (K (c, 0))) (fun h => h) (R := 1) (duties_later m (barCell c)))
theorem close_snd (k : Fin 4) : iprop(records m K ∗ atPos ER (sndCell c k) 1 ∅ 0) ⊢ (|={Set.univ}=> semVal (sndCell c k) 0 : sProp 𝕄) :=
  (sep_mono_left ((records_snd m K c k).trans (by iintro ⟨H, -⟩; iexact H))).trans
    (Rounds.cell_close ER (talkRd m) (Set.mem_univ (K (c, sndI k))) (fun h => h) (R := 1) (duties_later m (sndCell c k)))
theorem close_rcv (k : Fin 4) : iprop(records m K ∗ atPos ER (rcvCell c k) 1 ∅ 0) ⊢ (|={Set.univ}=> semVal (rcvCell c k) 0 : sProp 𝕄) :=
  (sep_mono_left ((records_rcv m K c k).trans (by iintro ⟨H, -⟩; iexact H))).trans
    (Rounds.cell_close ER (talkRd m) (Set.mem_univ (K (c, rcvI k))) (fun h => h) (R := 1) (duties_later m (rcvCell c k)))

end Talk

end Cert.Exchange

end
-- ==== Proof.Parts.lean ====
/-
# The exchange kernel: its run when the table swaps

The kernel's statements come in six stretches and a rest. Each stretch is run on its own: what it is given, and what it
leaves to whatever follows. Then the whole: a device whose table names the far side signals its partner, sends its four
chunks, receives the partner's four, lengthens them into the result, and ends with every semaphore it used at zero.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 9 → ℕ)

/-! ## The words and semaphores the program writes, by chunk -/

theorem off0 : (![0, 0, 0] : Fin 3 → ℕ) = offk 0 := rfl
theorem off1 : (![0, 256, 0] : Fin 3 → ℕ) = offk 1 := rfl
theorem off2 : (![0, 512, 0] : Fin 3 → ℕ) = offk 2 := rfl
theorem off3 : (![0, 768, 0] : Fin 3 → ℕ) = offk 3 := rfl
theorem snd_sem0 : (((cc0_scratch2.slice (Rect.unit (s := S4) ![0] S1.size inb_S4_S1_0) : DmaSems sig S1).squeeze S_ squeezes_S1_S_ : DmaSems sig S_)).sem = sndS 0 := by decide +kernel
theorem snd_sem1 : (((cc0_scratch2.slice (Rect.unit (s := S4) ![1] S1.size inb_S4_S1_1) : DmaSems sig S1).squeeze S_ squeezes_S1_S_ : DmaSems sig S_)).sem = sndS 1 := by decide +kernel
theorem snd_sem2 : (((cc0_scratch2.slice (Rect.unit (s := S4) ![2] S1.size inb_S4_S1_2) : DmaSems sig S1).squeeze S_ squeezes_S1_S_ : DmaSems sig S_)).sem = sndS 2 := by decide +kernel
theorem snd_sem3 : (((cc0_scratch2.slice (Rect.unit (s := S4) ![3] S1.size inb_S4_S1_3) : DmaSems sig S1).squeeze S_ squeezes_S1_S_ : DmaSems sig S_)).sem = sndS 3 := by decide +kernel
theorem rcv_sem0 : (((cc0_scratch3.slice (Rect.unit (s := S4) ![0] S1.size inb_S4_S1_0) : DmaSems sig S1).squeeze S_ squeezes_S1_S_ : DmaSems sig S_)).sem = rcvS 0 := by decide +kernel
theorem rcv_sem1 : (((cc0_scratch3.slice (Rect.unit (s := S4) ![1] S1.size inb_S4_S1_1) : DmaSems sig S1).squeeze S_ squeezes_S1_S_ : DmaSems sig S_)).sem = rcvS 1 := by decide +kernel
theorem rcv_sem2 : (((cc0_scratch3.slice (Rect.unit (s := S4) ![2] S1.size inb_S4_S1_2) : DmaSems sig S1).squeeze S_ squeezes_S1_S_ : DmaSems sig S_)).sem = rcvS 2 := by decide +kernel
theorem rcv_sem3 : (((cc0_scratch3.slice (Rect.unit (s := S4) ![3] S1.size inb_S4_S1_3) : DmaSems sig S1).squeeze S_ squeezes_S1_S_ : DmaSems sig S_)).sem = rcvS 3 := by decide +kernel
theorem owed_step0 (c : Dev nD) : owed c 4 = owed c 3 + tallyAt (rcvCell (peer c) 0) () N := rfl
theorem owed_step1 (c : Dev nD) : owed c 3 = owed c 2 + tallyAt (rcvCell (peer c) 1) () N := rfl
theorem owed_step2 (c : Dev nD) : owed c 2 = owed c 1 + tallyAt (rcvCell (peer c) 2) () N := rfl
theorem owed_step3 (c : Dev nD) : owed c 1 = owed c 0 + tallyAt (rcvCell (peer c) 3) () N := rfl

/-! ## What is stored -/

section Vals
variable (c : Dev nD) (off : Fin 3 → ℕ) (inb : ∀ a, off a + S1x256x1024.size a ≤ S1x1024x1024.size a)

/-- Rows of a buffer's contents from `off`, as a load reads them. -/
abbrev rowsAt {e : EltTy} (f : Vec F S1x1024x1024 e) : Vec F S1x256x1024 e :=
  fun j => f ((Rect.unit (s := S1x1024x1024) off S1x256x1024.size inb).emb j)

/-- Each shortened chunk the kernel stores is the send buffer's final contents there; -/
theorem pay2_sent (j) : k0_pay2 (F := F) (rowsAt off inb (xF m c)) j = sendF m c ((Rect.unit (s := S1x1024x1024) off S1x256x1024.size inb).emb j) :=
  congrFun (short_apply (F := F) (rowsAt off inb (xF m c))) j
theorem pay4_sent (j) : k0_pay4 (F := F) (k0_pay3 (rowsAt off inb (xF m c))) j = sendF m c ((Rect.unit (s := S1x1024x1024) off S1x256x1024.size inb).emb j) :=
  congrFun (short_apply (F := F) (rowsAt off inb (xF m c))) j
theorem pay5_sent (j) : k0_pay5 (F := F) (rowsAt off inb (xF m c)) j = sendF m c ((Rect.unit (s := S1x1024x1024) off S1x256x1024.size inb).emb j) :=
  congrFun (short_apply (F := F) (rowsAt off inb (xF m c))) j
theorem pay6_sent (j) : k0_pay6 (F := F) (rowsAt off inb (xF m c)) j = sendF m c ((Rect.unit (s := S1x1024x1024) off S1x256x1024.size inb).emb j) :=
  congrFun (short_apply (F := F) (rowsAt off inb (xF m c))) j
/-- each lengthened chunk is the result's final contents there. -/
theorem pay7_done (j) : k0_pay7 (F := F) (rowsAt off inb (recvF m c)) j = outF m c ((Rect.unit (s := S1x1024x1024) off S1x256x1024.size inb).emb j) :=
  congrFun (long_apply (F := F) (rowsAt off inb (recvF m c))) j
theorem pay8_done (j) : k0_pay8 (F := F) (rowsAt off inb (recvF m c)) j = outF m c ((Rect.unit (s := S1x1024x1024) off S1x256x1024.size inb).emb j) :=
  congrFun (long_apply (F := F) (rowsAt off inb (recvF m c))) j
theorem pay9_done (j) : k0_pay9 (F := F) (rowsAt off inb (recvF m c)) j = outF m c ((Rect.unit (s := S1x1024x1024) off S1x256x1024.size inb).emb j) :=
  congrFun (long_apply (F := F) (rowsAt off inb (recvF m c))) j
theorem pay10_done (j) : k0_pay10 (F := F) (rowsAt off inb (recvF m c)) j = outF m c ((Rect.unit (s := S1x1024x1024) off S1x256x1024.size inb).emb j) :=
  congrFun (long_apply (F := F) (rowsAt off inb (recvF m c))) j

end Vals

/-! ## The stretches -/

/-- The staged block of `x`, and the staged table. -/
abbrev xPts (c : Dev nD) : sProp 𝕄 := ((c : Thread nD τ).loc cc0_stg1_0) ↦{fullShare} (xF m c : Buf (Elt F) ((c : Thread nD τ).loc cc0_stg1_0))
abbrev tM : Memref sig .tc .smem S2 .i32 := Memref.whole cc0_stg0_0

abbrev barW (W : Waits sig Unit) : Waits sig Unit := insert (SemLoc.reg barS, ()) W

section Parts
variable (c : Dev nD) (v2 v8 v10 : BitVec 32) (W : Waits sig Unit)

theorem one_word : (1#32 : BitVec 32).toInt = 1 := by decide

/-- Stretch 1: the signal, the first chunk shortened, the wait on the barrier, the first copy, and the second chunk loaded. Given: the partner's
    receive buffer comes with the barrier, at some contents. -/
theorem run_part1 (hv : v10 = far c) (hw : k0_chk1 c v10) (h1 : k0_cond1 c v10 = 1#1) (f0 : FVec F S1x1024x1024 .bf16) {Kt : _ → sProp 𝕄} :
    iprop(records m K ∗ levAts L lv ∗ xPts m c ∗ sPts c 0 f0 ∗ owes (c : Thread nD τ) (O₀ c) W ∗ dutyTok ER (barCell (peer c)) 0 () ∗ recvAny c ∗ cred (tallyAt (barCell c) () 1) ∗ atPos ER (barCell c) 0 ∅ 0 ∗ dutyTok ER (sndCell c 0) 0 () ∗ dutyTok ER (rcvCell (peer c) 0) 0 () ∗ (∀ fn : FVec F S1x1024x1024 .bf16, (xPts m c ∗ cred (tallyAt (sndCell c 0) () N) ∗ owes (c : Thread nD τ) (owed c 3) (barW W) ∗ atPos ER (barCell c) 1 ∅ 0 ∗ rPts (peer c) 1 fn ∗ rPts (peer c) 2 fn ∗ rPts (peer c) 3 fn) -∗ Kt (k0_pay3 (rowsAt ![0, 256, 0] inb_S1x1024x1024_S1x256x1024_0_256_0 (xF m c)))))
      ⊢ wp frame (wpE (defs₀ (F := F)) 𝒱₀ (c : Thread nD τ) none) Set.univ (k0_part1 (F := F) tM (Memref.isWhole_whole _) xM (Memref.isWhole_whole _) oM (Memref.isWhole_whole _) sM (Memref.isWhole_whole _) rM (Memref.isWhole_whole _) cc0_scratch2 cc0_scratch3 c v2 v8 v10 hw (SemArray.scalar (sig.barrier 0 rfl)) h1) Kt := by
  simp only [k0_part1_eq_skeleton]; unfold k0_part1_skel
  simp only [semSignalWord, semWaitWord, one_word, Prog.lift, Prog.bind_op, Prog.bind_ret, Prog.pure_eq_ret]
  iintro ⟨#HR, #Hlev, Hx, Hs0, HO, Htb, Hra, Hcb, Hab, Hts0, Htr0, Hk⟩
  iapply (wp_signal_peer m K c W _ (Fin.ext ((congrArg (k0_dev1 c) hv).trans (dev1_far c)))) $$ [HO Htb Hra]
  · isplitr; · iexact HR
    isplitl [HO]; · iexact HO
    isplitl [Htb] <;> iassumption
  iintro HO
  iapply (wp_load_x c ![0, 0, 0] inb_S1x1024x1024_S1x256x1024_0_0_0 (xF m c)) $$ Hx; iintro Hx
  iapply (wp_load_s c 0 ![0, 0, 0] inb_S1x1024x1024_S1x256x1024_0_0_0 f0 off0) $$ Hs0; iintro Hs0
  iapply (wp_store_s c 0 ![0, 0, 0] inb_S1x1024x1024_S1x256x1024_0_0_0 f0 (sendF m c) off0 (pay2_sent m c ![0, 0, 0] inb_S1x1024x1024_S1x256x1024_0_0_0)) $$ Hs0; iintro Hs0
  iapply (wp_wait_bar m K c W) $$ [Hcb HO Hab]
  · isplitr; · iexact HR
    isplitr; · iexact Hlev
    isplitl [Hcb]; · iexact Hcb
    isplitl [HO] <;> iassumption
  iintro ⟨HO, Hab, Hp⟩
  unfold recvAny
  icases Hp with ⟨%fn, Hp⟩
  ihave Hp := (Entails.of_eq (split_r (peer c) fn)) $$ Hp
  icases Hp with ⟨Hr0, Hr1, Hr2, Hr3⟩
  iapply (wp_copy m K c (barW W) 0 _ (Fin.ext ((congrArg (k0_dev2 c) hv).trans (dev2_far c))) ![0, 0, 0] inb_S1x1024x1024_S1x256x1024_0_0_0 off0 _ _ snd_sem0 rcv_sem0 fn (owed c 3) (owed c 4) (owed_step0 c)) $$ [Hs0 Hr0 HO Hts0 Htr0]
  · isplitr; · iexact HR
    isplitl [Hs0]; · iexact Hs0
    isplitl [Hr0]; · iexact Hr0
    isplitl [HO]; · iexact HO
    isplitl [Hts0] <;> iassumption
  iintro ⟨Hc0, HO⟩
  iapply (wp_load_x c ![0, 256, 0] inb_S1x1024x1024_S1x256x1024_0_256_0 (xF m c)) $$ Hx; iintro Hx
  rw [wp_ret]; imodintro
  iapply Hk $$ %fn
  isplitl [Hx]; · iexact Hx
  isplitl [Hc0]; · iexact Hc0
  isplitl [HO]; · iexact HO
  isplitl [Hab]; · iexact Hab
  isplitl [Hr1]; · iexact Hr1
  isplitl [Hr2]; · iexact Hr2
  iexact Hr3

/-- Stretch 2: the second chunk shortened and copied, the third shortened. -/
theorem run_part2 (hv : v10 = far c) (hw : k0_chk1 c v10) (h1 : k0_cond1 c v10 = 1#1) (f0 fn : FVec F S1x1024x1024 .bf16) {Kt : _ → sProp 𝕄} :
    iprop(records m K ∗ xPts m c ∗ sPts c 1 f0 ∗ sPts c 2 f0 ∗ rPts (peer c) 1 fn ∗ owes (c : Thread nD τ) (owed c 3) W ∗ dutyTok ER (sndCell c 1) 0 () ∗ dutyTok ER (rcvCell (peer c) 1) 0 () ∗ ((xPts m c ∗ cred (tallyAt (sndCell c 1) () N) ∗ owes (c : Thread nD τ) (owed c 2) W ∗ sPts c 2 (sendF m c)) -∗ Kt ⟨Scalar.addi (Scalar.addi 0#32 (Scalar.muli v2 8#32)) (Scalar.muli v10 4#32), 1#32⟩))
      ⊢ wp frame (wpE (defs₀ (F := F)) 𝒱₀ (c : Thread nD τ) none) Set.univ (k0_part2 (F := F) tM (Memref.isWhole_whole _) xM (Memref.isWhole_whole _) oM (Memref.isWhole_whole _) sM (Memref.isWhole_whole _) rM (Memref.isWhole_whole _) cc0_scratch2 cc0_scratch3 c v2 v8 v10 hw h1 (k0_pay3 (rowsAt ![0, 256, 0] inb_S1x1024x1024_S1x256x1024_0_256_0 (xF m c)))) Kt := by
  simp only [k0_part2_eq_skeleton]; unfold k0_part2_skel
  simp only [semSignalWord, semWaitWord, one_word, Prog.lift, Prog.bind_op, Prog.bind_ret, Prog.pure_eq_ret]
  iintro ⟨#HR, Hx, Hs1, Hs2, Hr1, HO, Hts1, Htr1, Hk⟩
  iapply (wp_load_s c 1 ![0, 256, 0] inb_S1x1024x1024_S1x256x1024_0_256_0 f0 off1) $$ Hs1; iintro Hs1
  iapply (wp_store_s c 1 ![0, 256, 0] inb_S1x1024x1024_S1x256x1024_0_256_0 f0 (sendF m c) off1 (pay4_sent m c ![0, 256, 0] inb_S1x1024x1024_S1x256x1024_0_256_0)) $$ Hs1; iintro Hs1
  iapply (wp_copy m K c W 1 _ (Fin.ext ((congrArg (k0_dev3 c) hv).trans (dev3_far c))) ![0, 256, 0] inb_S1x1024x1024_S1x256x1024_0_256_0 off1 _ _ snd_sem1 rcv_sem1 fn (owed c 2) (owed c 3) (owed_step1 c)) $$ [Hs1 Hr1 HO Hts1 Htr1]
  · isplitr; · iexact HR
    isplitl [Hs1]; · iexact Hs1
    isplitl [Hr1]; · iexact Hr1
    isplitl [HO]; · iexact HO
    isplitl [Hts1] <;> iassumption
  iintro ⟨Hc1, HO⟩
  iapply (wp_load_x c ![0, 512, 0] inb_S1x1024x1024_S1x256x1024_0_512_0 (xF m c)) $$ Hx; iintro Hx
  iapply (wp_load_s c 2 ![0, 512, 0] inb_S1x1024x1024_S1x256x1024_0_512_0 f0 off2) $$ Hs2; iintro Hs2
  iapply (wp_store_s c 2 ![0, 512, 0] inb_S1x1024x1024_S1x256x1024_0_512_0 f0 (sendF m c) off2 (pay5_sent m c ![0, 512, 0] inb_S1x1024x1024_S1x256x1024_0_512_0)) $$ Hs2; iintro Hs2
  rw [wp_ret]; imodintro
  iapply Hk
  isplitl [Hx]; · iexact Hx
  isplitl [Hc1]; · iexact Hc1
  isplitl [HO]; · iexact HO
  iexact Hs2

/-- Stretch 3: the third chunk copied, the fourth shortened and copied. -/
theorem run_part3 (hv : v10 = far c) (hw : k0_chk1 c v10) (h1 : k0_cond1 c v10 = 1#1) (f0 fn : FVec F S1x1024x1024 .bf16) (v73 w : BitVec 32) {Kt : _ → sProp 𝕄} :
    iprop(records m K ∗ xPts m c ∗ sPts c 2 (sendF m c) ∗ sPts c 3 f0 ∗ rPts (peer c) 2 fn ∗ rPts (peer c) 3 fn ∗ owes (c : Thread nD τ) (owed c 2) W ∗ dutyTok ER (sndCell c 2) 0 () ∗ dutyTok ER (rcvCell (peer c) 2) 0 () ∗ dutyTok ER (sndCell c 3) 0 () ∗ dutyTok ER (rcvCell (peer c) 3) 0 () ∗ ((xPts m c ∗ cred (tallyAt (sndCell c 2) () N) ∗ cred (tallyAt (sndCell c 3) () N) ∗ owes (c : Thread nD τ) 0 W) -∗ Kt 8#32))
      ⊢ wp frame (wpE (defs₀ (F := F)) 𝒱₀ (c : Thread nD τ) none) Set.univ (k0_part3 (F := F) tM (Memref.isWhole_whole _) xM (Memref.isWhole_whole _) oM (Memref.isWhole_whole _) sM (Memref.isWhole_whole _) rM (Memref.isWhole_whole _) cc0_scratch2 cc0_scratch3 c v2 v8 v10 hw h1 v73 w) Kt := by
  simp only [k0_part3_eq_skeleton]; unfold k0_part3_skel
  simp only [semSignalWord, semWaitWord, one_word, Prog.lift, Prog.bind_op, Prog.bind_ret, Prog.pure_eq_ret]
  iintro ⟨#HR, Hx, Hs2, Hs3, Hr2, Hr3, HO, Hts2, Htr2, Hts3, Htr3, Hk⟩
  iapply (wp_copy m K c W 2 _ (Fin.ext ((congrArg (k0_dev4 c) hv).trans (dev4_far c))) ![0, 512, 0] inb_S1x1024x1024_S1x256x1024_0_512_0 off2 _ _ snd_sem2 rcv_sem2 fn (owed c 1) (owed c 2) (owed_step2 c)) $$ [Hs2 Hr2 HO Hts2 Htr2]
  · isplitr; · iexact HR
    isplitl [Hs2]; · iexact Hs2
    isplitl [Hr2]; · iexact Hr2
    isplitl [HO]; · iexact HO
    isplitl [Hts2] <;> iassumption
  iintro ⟨Hc2, HO⟩
  iapply (wp_load_x c ![0, 768, 0] inb_S1x1024x1024_S1x256x1024_0_768_0 (xF m c)) $$ Hx; iintro Hx
  iapply (wp_load_s c 3 ![0, 768, 0] inb_S1x1024x1024_S1x256x1024_0_768_0 f0 off3) $$ Hs3; iintro Hs3
  iapply (wp_store_s c 3 ![0, 768, 0] inb_S1x1024x1024_S1x256x1024_0_768_0 f0 (sendF m c) off3 (pay6_sent m c ![0, 768, 0] inb_S1x1024x1024_S1x256x1024_0_768_0)) $$ Hs3; iintro Hs3
  iapply (wp_copy m K c W 3 _ (Fin.ext ((congrArg (k0_dev5 c) hv).trans (dev5_far c))) ![0, 768, 0] inb_S1x1024x1024_S1x256x1024_0_768_0 off3 _ _ snd_sem3 rcv_sem3 fn (owed c 0) (owed c 1) (owed_step3 c)) $$ [Hs3 Hr3 HO Hts3 Htr3]
  · isplitr; · iexact HR
    isplitl [Hs3]; · iexact Hs3
    isplitl [Hr3]; · iexact Hr3
    isplitl [HO]; · iexact HO
    isplitl [Hts3] <;> iassumption
  iintro ⟨Hc3, HO⟩
  rw [wp_ret]; imodintro
  iapply Hk
  isplitl [Hx]; · iexact Hx
  isplitl [Hc2]; · iexact Hc2
  isplitl [Hc3]; · iexact Hc3
  iexact HO

/-- Stretch 4: the first chunk received and lengthened, the second received. -/
theorem run_part4 (o0 : FVec F S1x1024x1024 .f32) (w : BitVec 32) {Kt : _ → sProp 𝕄} :
    iprop(records m K ∗ owes (c : Thread nD τ) 0 W ∗ cred (tallyAt (rcvCell c 0) () N) ∗ atPos ER (rcvCell c 0) 0 ∅ 0 ∗ cred (tallyAt (rcvCell c 1) () N) ∗ atPos ER (rcvCell c 1) 0 ∅ 0 ∗ oPts c 0 o0 ∗ ((owes (c : Thread nD τ) 0 (insert (SemLoc.dma (rcvS 1), ()) (insert (SemLoc.dma (rcvS 0), ()) W)) ∗ atPos ER (rcvCell c 0) 1 ∅ 0 ∗ atPos ER (rcvCell c 1) 1 ∅ 0 ∗ rPts c 0 (recvF m c) ∗ rPts c 1 (recvF m c) ∗ oPts c 0 (outF m c)) -∗ Kt ⟨⟩))
      ⊢ wp frame (wpE (defs₀ (F := F)) 𝒱₀ (c : Thread nD τ) none) Set.univ (k0_part4 (F := F) tM (Memref.isWhole_whole _) xM (Memref.isWhole_whole _) oM (Memref.isWhole_whole _) sM (Memref.isWhole_whole _) rM (Memref.isWhole_whole _) cc0_scratch2 cc0_scratch3 v2 v8 v10 w) Kt := by
  simp only [k0_part4_eq_skeleton]; unfold k0_part4_skel
  simp only [semSignalWord, semWaitWord, one_word, Prog.lift, Prog.bind_op, Prog.bind_ret, Prog.pure_eq_ret]
  iintro ⟨#HR, HO, Hcr0, Har0, Hcr1, Har1, Ho0, Hk⟩
  iapply (wp_wait_rcv m K c W 0 ![0, 0, 0] inb_S1x1024x1024_S1x256x1024_0_0_0 _ rcv_sem0) $$ [Hcr0 HO Har0]
  · isplitr; · iexact HR
    isplitl [Hcr0]; · iexact Hcr0
    isplitl [HO] <;> iassumption
  iintro ⟨HO, Har0, Hr0⟩
  iapply (wp_load_r c 0 ![0, 0, 0] inb_S1x1024x1024_S1x256x1024_0_0_0 (recvF m c) off0) $$ Hr0; iintro Hr0
  iapply (wp_load_o c 0 ![0, 0, 0] inb_S1x1024x1024_S1x256x1024_0_0_0 o0 off0) $$ Ho0; iintro Ho0
  iapply (wp_store_o c 0 ![0, 0, 0] inb_S1x1024x1024_S1x256x1024_0_0_0 o0 (outF m c) off0 (pay7_done m c ![0, 0, 0] inb_S1x1024x1024_S1x256x1024_0_0_0)) $$ Ho0; iintro Ho0
  iapply (wp_wait_rcv m K c (insert (SemLoc.dma (rcvS 0), ()) W) 1 ![0, 256, 0] inb_S1x1024x1024_S1x256x1024_0_256_0 _ rcv_sem1) $$ [Hcr1 HO Har1]
  · isplitr; · iexact HR
    isplitl [Hcr1]; · iexact Hcr1
    isplitl [HO] <;> iassumption
  iintro ⟨HO, Har1, Hr1⟩
  rw [wp_ret]; imodintro
  iapply Hk
  isplitl [HO]; · iexact HO
  isplitl [Har0]; · iexact Har0
  isplitl [Har1]; · iexact Har1
  isplitl [Hr0]; · iexact Hr0
  isplitl [Hr1]; · iexact Hr1
  iexact Ho0

/-- Stretch 5: the second chunk lengthened, the third received and lengthened. -/
theorem run_part5 (o0 : FVec F S1x1024x1024 .f32) {Kt : _ → sProp 𝕄} :
    iprop(records m K ∗ owes (c : Thread nD τ) 0 W ∗ rPts c 1 (recvF m c) ∗ oPts c 1 o0 ∗ cred (tallyAt (rcvCell c 2) () N) ∗ atPos ER (rcvCell c 2) 0 ∅ 0 ∗ oPts c 2 o0 ∗ ((owes (c : Thread nD τ) 0 (insert (SemLoc.dma (rcvS 2), ()) W) ∗ atPos ER (rcvCell c 2) 1 ∅ 0 ∗ rPts c 1 (recvF m c) ∗ rPts c 2 (recvF m c) ∗ oPts c 1 (outF m c) ∗ oPts c 2 (outF m c)) -∗ Kt (Scalar.addi (Scalar.addi 0#32 (Scalar.muli v2 8#32)) (Scalar.muli v10 4#32))))
      ⊢ wp frame (wpE (defs₀ (F := F)) 𝒱₀ (c : Thread nD τ) none) Set.univ (k0_part5 (F := F) tM (Memref.isWhole_whole _) xM (Memref.isWhole_whole _) oM (Memref.isWhole_whole _) sM (Memref.isWhole_whole _) rM (Memref.isWhole_whole _) cc0_scratch2 cc0_scratch3 v2 v8 v10) Kt := by
  simp only [k0_part5_eq_skeleton]; unfold k0_part5_skel
  simp only [semSignalWord, semWaitWord, one_word, Prog.lift, Prog.bind_op, Prog.bind_ret, Prog.pure_eq_ret]
  iintro ⟨#HR, HO, Hr1, Ho1, Hcr2, Har2, Ho2, Hk⟩
  iapply (wp_load_r c 1 ![0, 256, 0] inb_S1x1024x1024_S1x256x1024_0_256_0 (recvF m c) off1) $$ Hr1; iintro Hr1
  iapply (wp_load_o c 1 ![0, 256, 0] inb_S1x1024x1024_S1x256x1024_0_256_0 o0 off1) $$ Ho1; iintro Ho1
  iapply (wp_store_o c 1 ![0, 256, 0] inb_S1x1024x1024_S1x256x1024_0_256_0 o0 (outF m c) off1 (pay8_done m c ![0, 256, 0] inb_S1x1024x1024_S1x256x1024_0_256_0)) $$ Ho1; iintro Ho1
  iapply (wp_wait_rcv m K c W 2 ![0, 512, 0] inb_S1x1024x1024_S1x256x1024_0_512_0 _ rcv_sem2) $$ [Hcr2 HO Har2]
  · isplitr; · iexact HR
    isplitl [Hcr2]; · iexact Hcr2
    isplitl [HO] <;> iassumption
  iintro ⟨HO, Har2, Hr2⟩
  iapply (wp_load_r c 2 ![0, 512, 0] inb_S1x1024x1024_S1x256x1024_0_512_0 (recvF m c) off2) $$ Hr2; iintro Hr2
  iapply (wp_load_o c 2 ![0, 512, 0] inb_S1x1024x1024_S1x256x1024_0_512_0 o0 off2) $$ Ho2; iintro Ho2
  iapply (wp_store_o c 2 ![0, 512, 0] inb_S1x1024x1024_S1x256x1024_0_512_0 o0 (outF m c) off2 (pay9_done m c ![0, 512, 0] inb_S1x1024x1024_S1x256x1024_0_512_0)) $$ Ho2; iintro Ho2
  rw [wp_ret]; imodintro
  iapply Hk
  isplitl [HO]; · iexact HO
  isplitl [Har2]; · iexact Har2
  isplitl [Hr1]; · iexact Hr1
  isplitl [Hr2]; · iexact Hr2
  isplitl [Ho1]; · iexact Ho1
  iexact Ho2

/-- Stretch 6: the fourth chunk received and lengthened, the first two copies' sources given back. -/
theorem run_part6 (o0 : FVec F S1x1024x1024 .f32) (w : BitVec 32) {Kt : _ → sProp 𝕄} :
    iprop(records m K ∗ owes (c : Thread nD τ) 0 W ∗ cred (tallyAt (rcvCell c 3) () N) ∗ atPos ER (rcvCell c 3) 0 ∅ 0 ∗ oPts c 3 o0 ∗ cred (tallyAt (sndCell c 0) () N) ∗ atPos ER (sndCell c 0) 0 ∅ 0 ∗ cred (tallyAt (sndCell c 1) () N) ∗ atPos ER (sndCell c 1) 0 ∅ 0 ∗ ((owes (c : Thread nD τ) 0 (insert (SemLoc.dma (sndS 1), ()) (insert (SemLoc.dma (sndS 0), ()) (insert (SemLoc.dma (rcvS 3), ()) W))) ∗ atPos ER (rcvCell c 3) 1 ∅ 0 ∗ rPts c 3 (recvF m c) ∗ oPts c 3 (outF m c) ∗ atPos ER (sndCell c 0) 1 ∅ 0 ∗ sPts c 0 (sendF m c) ∗ atPos ER (sndCell c 1) 1 ∅ 0 ∗ sPts c 1 (sendF m c)) -∗ Kt ⟨⟩))
      ⊢ wp frame (wpE (defs₀ (F := F)) 𝒱₀ (c : Thread nD τ) none) Set.univ (k0_part6 (F := F) tM (Memref.isWhole_whole _) xM (Memref.isWhole_whole _) oM (Memref.isWhole_whole _) sM (Memref.isWhole_whole _) rM (Memref.isWhole_whole _) cc0_scratch2 cc0_scratch3 v8 w) Kt := by
  simp only [k0_part6_eq_skeleton]; unfold k0_part6_skel
  simp only [semSignalWord, semWaitWord, one_word, Prog.lift, Prog.bind_op, Prog.bind_ret, Prog.pure_eq_ret]
  iintro ⟨#HR, HO, Hcr3, Har3, Ho3, Hcs0, Has0, Hcs1, Has1, Hk⟩
  iapply (wp_wait_rcv m K c W 3 ![0, 768, 0] inb_S1x1024x1024_S1x256x1024_0_768_0 _ rcv_sem3) $$ [Hcr3 HO Har3]
  · isplitr; · iexact HR
    isplitl [Hcr3]; · iexact Hcr3
    isplitl [HO] <;> iassumption
  iintro ⟨HO, Har3, Hr3⟩
  iapply (wp_load_r c 3 ![0, 768, 0] inb_S1x1024x1024_S1x256x1024_0_768_0 (recvF m c) off3) $$ Hr3; iintro Hr3
  iapply (wp_load_o c 3 ![0, 768, 0] inb_S1x1024x1024_S1x256x1024_0_768_0 o0 off3) $$ Ho3; iintro Ho3
  iapply (wp_store_o c 3 ![0, 768, 0] inb_S1x1024x1024_S1x256x1024_0_768_0 o0 (outF m c) off3 (pay10_done m c ![0, 768, 0] inb_S1x1024x1024_S1x256x1024_0_768_0)) $$ Ho3; iintro Ho3
  iapply (wp_wait_snd m K c (insert (SemLoc.dma (rcvS 3), ()) W) 0 ![0, 0, 0] inb_S1x1024x1024_S1x256x1024_0_0_0 _ snd_sem0) $$ [Hcs0 HO Has0]
  · isplitr; · iexact HR
    isplitl [Hcs0]; · iexact Hcs0
    isplitl [HO] <;> iassumption
  iintro ⟨HO, Has0, Hs0⟩
  iapply (wp_wait_snd m K c (insert (SemLoc.dma (sndS 0), ()) (insert (SemLoc.dma (rcvS 3), ()) W)) 1 ![0, 256, 0] inb_S1x1024x1024_S1x256x1024_0_256_0 _ snd_sem1) $$ [Hcs1 HO Has1]
  · isplitr; · iexact HR
    isplitl [Hcs1]; · iexact Hcs1
    isplitl [HO] <;> iassumption
  iintro ⟨HO, Has1, Hs1⟩
  rw [wp_ret]; imodintro
  iapply Hk
  isplitl [HO]; · iexact HO
  isplitl [Har3]; · iexact Har3
  isplitl [Hr3]; · iexact Hr3
  isplitl [Ho3]; · iexact Ho3
  isplitl [Has0]; · iexact Has0
  isplitl [Hs0]; · iexact Hs0
  isplitl [Has1]; · iexact Has1
  iexact Hs1

end Parts

end Cert.Exchange

end
-- ==== Proof.Table.lean ====
/-
# The exchange kernel: its table, its staged blocks, and the array its result is written to

The kernel has no grid: each array is staged whole, so a staged block is the array itself, and the staged result, written
back, is the whole result array. The one word a device reads of its two-word table is the entry at its middle coordinate.
-/
module

public import proofs.«01_k».proof.Proof.Chunks

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-! ## The table -/

/-- Device `c`'s table. -/
def tF (c : Dev nD) : IVec S2 32 := m ((c : Thread nD τ).loc main_arg1)

set_option backward.proofsInPublic true in
/-- Its entry at the device's middle coordinate. -/
def place (c : Dev nD) : S2.Idx := fun a => ⟨c.val / 4 % 2, by fin_cases a; exact Nat.mod_lt _ (by decide)⟩

/-- Every device's table names the other side of the mesh; -/
def Swaps : Prop := ∀ c : Dev nD, tF m c (place c) = far c
/-- every device's table names the device's own side. -/
def Stays : Prop := ∀ c : Dev nD, tF m c (place c) = side c

/-- The word a device reads of its staged table. -/
abbrev wordR (c : Dev nD) : Rect S2 := Rect.unit (s := S2) (k0_off1 c) S1.size (k0_off1_inb c)
abbrev wordOf (c : Dev nD) (t : (cc0_stg0_0 : Ref sig .tc).ty.Contents (Elt F)) : BitVec 32 :=
  ((Memref.whole cc0_stg0_0).access (wordR c) : View sig .tc _ _ _).read (Elt F) t (Shape.Idx.first (s := S1) (numel1_S1.symm ▸ Nat.one_pos))

/-- It is the entry at the device's middle coordinate. -/
theorem wordOf_eq (c : Dev nD) : wordOf (F := F) c (tF m c) = tF m c (place c) := by
  show tF m c _ = _
  refine congrArg _ (funext fun a => Fin.ext ?_)
  fin_cases a; revert c; decide +kernel

/-! ## The staged blocks -/

/-- No window moves. -/
theorem still (w : Fin 3) (t : Fin cfg0.N) (a) : (cfg0.win w).index t a = 0 := by
  fin_cases w <;> rfl

/-- The staged table is the table; -/
theorem iblk_t (c : Dev nD) (t : Fin cfg0.N) : iblk m c 0 t = tF m c := by
  funext y
  show m ((c : Thread nD τ).loc main_arg1) _ = _
  exact congrArg (m ((c : Thread nD τ).loc main_arg1)) (funext fun a => Fin.ext (win0_0.rect_emb_val_of_index_zero t a (still 0 t a) y))

/-- the staged block of `x` is the block; -/
theorem iblk_x (c : Dev nD) (t : Fin cfg0.N) : iblk m c 1 t = xF m c := by
  funext y
  show m ((c : Thread nD τ).loc main_arg0) _ = _
  exact congrArg (m ((c : Thread nD τ).loc main_arg0)) (funext fun a => Fin.ext (win0_1.rect_emb_val_of_index_zero t a (still 1 t a) y))

/-- and the block the result is written back through is the whole result array. -/
theorem blk_out (t : Fin cfg0.N) (y : S1x1024x1024.Idx) : ((cfg0.win 2).blk t).view.emb y = y :=
  funext fun a => Fin.ext (win0_2.rect_emb_val_of_index_zero t a (still 2 t a) y)

/-- So a run that leaves `G` staged as the result ends with the result array at `G`. -/
theorem arrAt_out {Ix : Type} [DecidableEq Ix] {Name : Type} [DecidableEq Name] {U : Type} [URA U] {Lvl : Type}
    (c : Dev nD) (dat : Dat τ (Elt F) Ix Name U Lvl cfg0 c) (G : FVec F S1x1024x1024 .f32) (hG : ∀ t, dat.after 2 t = G) :
    dat.arrAt 2 cfg0.N = (G : Buf (Elt F) ((c : Thread nD τ).loc main_v1)) := by
  have h := dat.arrAt_eq_of_cover 2 (G : Buf (Elt F) ((c : Thread nD τ).loc main_v1)) (fun t _ => by
      funext y
      rw [View.read_apply]
      refine Eq.trans ?_ (congrArg G (blk_out t y)).symm
      show dat.after 2 t _ = G y
      rw [hG])
    (fun i => ⟨t0_0, by rfl, by
      have := ((cfg0.win 2).blk t0_0).view.emb_mem_set i
      rwa [blk_out] at this⟩)
  exact h

end Cert.Exchange

end
-- ==== Proof.Body.lean ====
/-
# The exchange kernel: its body when the table swaps

The stretches of `Parts` put together: a device whose table names the far side starts with its tokens, its credit, its
receive buffer and its send buffer, and ends with both buffers back, the partner's block as its staged result, and all
nine of its semaphores at zero.
-/
module

public import proofs.«01_k».proof.Proof.Parts
public import proofs.«01_k».proof.Proof.Table

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 9 → ℕ)

/-! ## What a device holds before and after -/

/-- The tokens of the raises device `c` makes: of its partner's barrier, of its own send semaphores, of its partner's
    receive semaphores. -/
def payToks (c : Dev nD) : sProp 𝕄 :=
  iprop(dutyTok ER (barCell (peer c)) 0 ()
    ∗ (dutyTok ER (sndCell c 0) 0 () ∗ dutyTok ER (sndCell c 1) 0 () ∗ dutyTok ER (sndCell c 2) 0 () ∗ dutyTok ER (sndCell c 3) 0 ())
    ∗ (dutyTok ER (rcvCell (peer c) 0) 0 () ∗ dutyTok ER (rcvCell (peer c) 1) 0 () ∗ dutyTok ER (rcvCell (peer c) 2) 0 () ∗ dutyTok ER (rcvCell (peer c) 3) 0 ()))

/-- Its place at each of its nine semaphores, no round over; -/
def places (c : Dev nD) : sProp 𝕄 :=
  iprop(atPos ER (barCell c) 0 ∅ 0
    ∗ (atPos ER (sndCell c 0) 0 ∅ 0 ∗ atPos ER (sndCell c 1) 0 ∅ 0 ∗ atPos ER (sndCell c 2) 0 ∅ 0 ∗ atPos ER (sndCell c 3) 0 ∅ 0)
    ∗ (atPos ER (rcvCell c 0) 0 ∅ 0 ∗ atPos ER (rcvCell c 1) 0 ∅ 0 ∗ atPos ER (rcvCell c 2) 0 ∅ 0 ∗ atPos ER (rcvCell c 3) 0 ∅ 0))

/-- its credit for the raises its partner makes; -/
def credits (c : Dev nD) : sProp 𝕄 :=
  iprop(cred (tallyAt (barCell c) () 1)
    ∗ (cred (tallyAt (rcvCell c 0) () N) ∗ cred (tallyAt (rcvCell c 1) () N) ∗ cred (tallyAt (rcvCell c 2) () N) ∗ cred (tallyAt (rcvCell c 3) () N)))

/-- its send buffer, at some contents. -/
def sendAny (c : Dev nD) : sProp 𝕄 := iprop(∃ f : Buf (Elt F) ((c : Thread nD τ).loc cc0_scratch0), ((c : Thread nD τ).loc cc0_scratch0) ↦{fullShare} f)

/-- The eight semaphores of its copies at zero. -/
def zeros (c : Dev nD) : sProp 𝕄 :=
  iprop((semVal (sndCell c 0) 0 ∗ semVal (sndCell c 1) 0 ∗ semVal (sndCell c 2) 0 ∗ semVal (sndCell c 3) 0)
    ∗ (semVal (rcvCell c 0) 0 ∗ semVal (rcvCell c 1) 0 ∗ semVal (rcvCell c 2) 0 ∗ semVal (rcvCell c 3) 0))

/-- What device `c` brings to the kernel; -/
def start (c : Dev nD) : sProp 𝕄 := iprop((∃ K, records m K ∗ places c ∗ payToks c) ∗ credits c ∗ levAts L lv)
def Φ₀ (c : Dev nD) : sProp 𝕄 := iprop(start m c ∗ sendAny c ∗ recvAny c)
/-- and what it is left with. -/
def Φ₁ (c : Dev nD) : sProp 𝕄 := iprop(semVal (barCell c) 0 ∗ zeros c ∗ sendAny c ∗ recvAny c)

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- The kernel's proof data: the arrays as launched; after the body the table and the block of `x` still staged, and the
    partner's block staged as the result. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem before_t (c : Dev nD) (d) : (dats m 0 c).before (0 : Fin 3) t₀ d = tF m c := by
  unfold Dat.before; rw [if_pos (fetch_0 t₀)]; exact iblk_t m c t₀
theorem before_x (c : Dev nD) (d) : (dats m 0 c).before (1 : Fin 3) t₀ d = xF m c := by
  unfold Dat.before; rw [if_pos (fetch_1 t₀)]; exact iblk_x m c t₀

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer of device `c` staged at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- All nine semaphores, their rounds over, close at zero. -/
theorem close_all (c : Dev nD) :
    iprop(records m K ∗ atPos ER (barCell c) 1 ∅ 0
      ∗ (atPos ER (sndCell c 0) 1 ∅ 0 ∗ atPos ER (sndCell c 1) 1 ∅ 0 ∗ atPos ER (sndCell c 2) 1 ∅ 0 ∗ atPos ER (sndCell c 3) 1 ∅ 0)
      ∗ (atPos ER (rcvCell c 0) 1 ∅ 0 ∗ atPos ER (rcvCell c 1) 1 ∅ 0 ∗ atPos ER (rcvCell c 2) 1 ∅ 0 ∗ atPos ER (rcvCell c 3) 1 ∅ 0))
      ⊢ (|={Set.univ}=> iprop(semVal (barCell c) 0 ∗ zeros c) : sProp 𝕄) := by
  iintro ⟨#HR, Hb, ⟨Hs0, Hs1, Hs2, Hs3⟩, Hr0, Hr1, Hr2, Hr3⟩
  imod (close_bar m K c) $$ [Hb] with Hb
  · isplitr; · iexact HR
    iexact Hb
  imod (close_snd m K c 0) $$ [Hs0] with Hs0
  · isplitr; · iexact HR
    iexact Hs0
  imod (close_snd m K c 1) $$ [Hs1] with Hs1
  · isplitr; · iexact HR
    iexact Hs1
  imod (close_snd m K c 2) $$ [Hs2] with Hs2
  · isplitr; · iexact HR
    iexact Hs2
  imod (close_snd m K c 3) $$ [Hs3] with Hs3
  · isplitr; · iexact HR
    iexact Hs3
  imod (close_rcv m K c 0) $$ [Hr0] with Hr0
  · isplitr; · iexact HR
    iexact Hr0
  imod (close_rcv m K c 1) $$ [Hr1] with Hr1
  · isplitr; · iexact HR
    iexact Hr1
  imod (close_rcv m K c 2) $$ [Hr2] with Hr2
  · isplitr; · iexact HR
    iexact Hr2
  imod (close_rcv m K c 3) $$ [Hr3] with Hr3
  · isplitr; · iexact HR
    iexact Hr3
  imodintro
  unfold zeros
  isplitl [Hb]; · iexact Hb
  isplitl [Hs0 Hs1 Hs2 Hs3]
  · isplitl [Hs0]; · iexact Hs0
    isplitl [Hs1]; · iexact Hs1
    isplitl [Hs2] <;> iassumption
  isplitl [Hr0]; · iexact Hr0
  isplitl [Hr1]; · iexact Hr1
  isplitl [Hr2] <;> iassumption

/-- The kernel on its buffers. -/
abbrev bodyProg : Prog (TpuEff nD τ sig (Elt F) Λ₀ .tc) PUnit :=
  cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) cc0_scratch2 cc0_scratch3

/-- The kernel's run on a device whose table names the far side, from its buffers and its part in the handshake to its
    result and all semaphores at zero. -/
theorem run_body (c : Dev nD) (hv : tF m c (place c) = far c) (W : Waits sig Unit)
    (f0 : FVec F S1x1024x1024 .bf16) (o0 : FVec F S1x1024x1024 .f32) {Kt : PUnit → sProp 𝕄} :
    iprop(records m K ∗ levAts L lv ∗ places c ∗ payToks c ∗ credits c ∗ recvAny c
        ∗ (((c : Thread nD τ).loc cc0_scratch0) ↦{fullShare} (f0 : Buf (Elt F) ((c : Thread nD τ).loc cc0_scratch0)))
        ∗ owes (c : Thread nD τ) (O₀ c) W
        ∗ (((c : Thread nD τ).loc cc0_stg0_0) ↦{fullShare} (tF m c : Buf (Elt F) ((c : Thread nD τ).loc cc0_stg0_0)))
        ∗ xPts m c
        ∗ (((c : Thread nD τ).loc cc0_stg2_0) ↦{fullShare} (o0 : Buf (Elt F) ((c : Thread nD τ).loc cc0_stg2_0)))
        ∗ ((∃ W', Φ₁ c ∗ owes (c : Thread nD τ) 0 W'
            ∗ (((c : Thread nD τ).loc cc0_stg0_0) ↦{fullShare} (tF m c : Buf (Elt F) ((c : Thread nD τ).loc cc0_stg0_0)))
            ∗ xPts m c
            ∗ (((c : Thread nD τ).loc cc0_stg2_0) ↦{fullShare} (outF m c : Buf (Elt F) ((c : Thread nD τ).loc cc0_stg2_0)))) -∗ Kt ⟨⟩))
      ⊢ wp frame (wpE (defs₀ (F := F)) 𝒱₀ (c : Thread nD τ) none) Set.univ (bodyProg (F := F)) Kt := by
  unfold bodyProg
  simp only [cc0_body_eq_skeleton]; unfold cc0_body_skel
  simp only [smemLoad, smemLoadElt, Prog.lift, Prog.bind_op, Prog.bind_ret, Prog.pure_eq_ret, Prog.bind_assoc, wp_deviceId]
  unfold places payToks credits
  iintro ⟨#HR, #Hlev, ⟨Hab, ⟨Has0, Has1, Has2, Has3⟩, Har0, Har1, Har2, Har3⟩, ⟨Htb, ⟨Hts0, Hts1, Hts2, Hts3⟩, Htr0, Htr1, Htr2, Htr3⟩,
    ⟨Hcb, Hcr0, Hcr1, Hcr2, Hcr3⟩, Hra, Hs, HO, Ht, Hx, Ho, Hk⟩
  iapply (wp_load_rect 𝒱₀ (c : Thread nD τ) none Set.univ (m := tM) (r := wordR c) (Finset.subset_univ _)) $$ Ht; iintro Ht
  have hw : wordOf (F := F) c (tF m c) = far c := (wordOf_eq m c).trans hv
  have hchk : k0_chk1 c (wordOf (F := F) c (tF m c)) := by rw [hw]; exact chk_far c
  have hcond : k0_cond1 c (wordOf (F := F) c (tF m c)) = 1#1 := by rw [hw]; exact cond_far c
  have hkeep := keep_far c
  rw [← hw] at hkeep
  ihave Hs := (Entails.of_eq (split_s c f0)) $$ Hs
  icases Hs with ⟨Hs0, Hs1, Hs2, Hs3⟩
  ihave Ho := (Entails.of_eq (split_o c o0)) $$ Ho
  icases Ho with ⟨Ho0, Ho1, Ho2, Ho3⟩
  simp only [wp_assume_of _ _ _ _ (d := k0_chk1.dec _ _) hchk]
  rw [dif_pos hcond, wp_bind]
  iapply (run_part1 m K c _ _ _ W hw hchk hcond f0) $$ [-]
  isplitr; · iexact HR
  isplitr; · iexact Hlev
  isplitl [Hx]; · iexact Hx
  isplitl [Hs0]; · iexact Hs0
  isplitl [HO]; · iexact HO
  isplitl [Htb]; · iexact Htb
  isplitl [Hra]; · iexact Hra
  isplitl [Hcb]; · iexact Hcb
  isplitl [Hab]; · iexact Hab
  isplitl [Hts0]; · iexact Hts0
  isplitl [Htr0]; · iexact Htr0
  iintro %fn ⟨Hx, Hcs0, HO, Hab, Hp1, Hp2, Hp3⟩
  rw [wp_bind]
  iapply (run_part2 m K c _ _ _ (barW W) hw hchk hcond f0 fn) $$ [-]
  isplitr; · iexact HR
  isplitl [Hx]; · iexact Hx
  isplitl [Hs1]; · iexact Hs1
  isplitl [Hs2]; · iexact Hs2
  isplitl [Hp1]; · iexact Hp1
  isplitl [HO]; · iexact HO
  isplitl [Hts1]; · iexact Hts1
  isplitl [Htr1]; · iexact Htr1
  iintro ⟨Hx, Hcs1, HO, Hs2⟩
  rw [wp_bind]
  iapply (run_part3 m K c _ _ _ (barW W) hw hchk hcond f0 fn _ _) $$ [-]
  isplitr; · iexact HR
  isplitl [Hx]; · iexact Hx
  isplitl [Hs2]; · iexact Hs2
  isplitl [Hs3]; · iexact Hs3
  isplitl [Hp2]; · iexact Hp2
  isplitl [Hp3]; · iexact Hp3
  isplitl [HO]; · iexact HO
  isplitl [Hts2]; · iexact Hts2
  isplitl [Htr2]; · iexact Htr2
  isplitl [Hts3]; · iexact Hts3
  isplitl [Htr3]; · iexact Htr3
  iintro ⟨Hx, Hcs2, Hcs3, HO⟩
  rw [wp_bind]
  iapply (run_part4 m K c _ _ _ (barW W) o0 _) $$ [-]
  isplitr; · iexact HR
  isplitl [HO]; · iexact HO
  isplitl [Hcr0]; · iexact Hcr0
  isplitl [Har0]; · iexact Har0
  isplitl [Hcr1]; · iexact Hcr1
  isplitl [Har1]; · iexact Har1
  isplitl [Ho0]; · iexact Ho0
  iintro ⟨HO, Har0, Har1, Hr0, Hr1, Ho0⟩
  rw [wp_bind]
  iapply (run_part5 m K c _ _ _ _ o0) $$ [-]
  isplitr; · iexact HR
  isplitl [HO]; · iexact HO
  isplitl [Hr1]; · iexact Hr1
  isplitl [Ho1]; · iexact Ho1
  isplitl [Hcr2]; · iexact Hcr2
  isplitl [Har2]; · iexact Har2
  isplitl [Ho2]; · iexact Ho2
  iintro ⟨HO, Har2, Hr1, Hr2, Ho1, Ho2⟩
  rw [wp_bind]
  iapply (run_part6 m K c _ _ o0 _) $$ [-]
  isplitr; · iexact HR
  isplitl [HO]; · iexact HO
  isplitl [Hcr3]; · iexact Hcr3
  isplitl [Har3]; · iexact Har3
  isplitl [Ho3]; · iexact Ho3
  isplitl [Hcs0]; · iexact Hcs0
  isplitl [Has0]; · iexact Has0
  isplitl [Hcs1]; · iexact Hcs1
  isplitl [Has1]; · iexact Has1
  iintro ⟨HO, Har3, Hr3, Ho3, Has0, Hs0, Has1, Hs1⟩
  iapply (wp_wait_snd m K c _ 2 ![0, 512, 0] inb_S1x1024x1024_S1x256x1024_0_512_0 _ snd_sem2) $$ [HO Hcs2 Has2]
  · isplitr; · iexact HR
    isplitl [Hcs2]; · iexact Hcs2
    isplitl [HO] <;> iassumption
  iintro ⟨HO, Has2, Hs2⟩
  iapply (wp_wait_snd m K c _ 3 ![0, 768, 0] inb_S1x1024x1024_S1x256x1024_0_768_0 _ snd_sem3) $$ [HO Hcs3 Has3]
  · isplitr; · iexact HR
    isplitl [Hcs3]; · iexact Hcs3
    isplitl [HO] <;> iassumption
  iintro ⟨HO, Has3, Hs3⟩
  rw [if_neg hkeep, wp_ret]
  imod (close_all m K c) $$ [Hab Has0 Has1 Has2 Has3 Har0 Har1 Har2 Har3] with ⟨Hzb, Hz⟩
  · isplitr; · iexact HR
    isplitl [Hab]; · iexact Hab
    isplitl [Has0 Has1 Has2 Has3]
    · isplitl [Has0]; · iexact Has0
      isplitl [Has1]; · iexact Has1
      isplitl [Has2] <;> iassumption
    isplitl [Har0]; · iexact Har0
    isplitl [Har1]; · iexact Har1
    isplitl [Har2] <;> iassumption
  imodintro
  iapply Hk
  iexists _
  unfold Φ₁ sendAny recvAny
  isplitl [Hzb Hz Hs0 Hs1 Hs2 Hs3 Hr0 Hr1 Hr2 Hr3]
  · isplitl [Hzb]; · iexact Hzb
    isplitl [Hz]; · iexact Hz
    isplitl [Hs0 Hs1 Hs2 Hs3]
    · iexists (sendF m c); iapply (Entails.of_eq (split_s c (sendF m c)).symm)
      isplitl [Hs0]; · iexact Hs0
      isplitl [Hs1]; · iexact Hs1
      isplitl [Hs2] <;> iassumption
    iexists (recvF m c); iapply (Entails.of_eq (split_r c (recvF m c)).symm)
    isplitl [Hr0]; · iexact Hr0
    isplitl [Hr1]; · iexact Hr1
    isplitl [Hr2] <;> iassumption
  isplitl [HO]; · iexact HO
  isplitl [Ht]; · iexact Ht
  isplitl [Hx]; · iexact Hx
  iapply (Entails.of_eq (split_o c (outF m c)).symm)
  isplitl [Ho0]; · iexact Ho0
  isplitl [Ho1]; · iexact Ho1
  isplitl [Ho2] <;> iassumption

/-! ## The body obligation -/

/-- What the pipeline gives the body; -/
def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))
/-- what it takes back. -/
def bodyPost (c : Dev nD) : sProp 𝕄 :=
  iprop(Φ₁ c ∗ (dats m 0 c).owesAt () t₀.succ ∗ stg c cc0_stg0_0 (iblk m c 0 t₀) ∗ stg c cc0_stg1_0 (iblk m c 1 t₀) ∗ stg c cc0_stg2_0 (outF m c))

/-- When the tables swap, the kernel takes the one to the other. -/
theorem sound_body (hv : Swaps m) (c : Dev nD) :
    bodyPre m c ⊢ wp frame (wpE (defs₀ (F := F)) 𝒱₀ (c : Thread nD τ) none) Set.univ (bodyProg (F := F)) (fun _ => bodyPost m c) := by
  unfold bodyPre Φ₀ start sendAny
  iintro ⟨⟨⟨⟨%K, #HR, Hpl, Htk⟩, Hcr, #Hlev⟩, ⟨%f0, Hs⟩, Hra⟩, Ho, ⟨%d0, %g0, %hg0, Ht⟩, ⟨%d1, %g1, %hg1, Hx⟩, ⟨%d2, %g2, %hg2, Hout⟩⟩
  rw [before_t] at hg0
  rw [before_x] at hg1
  subst hg0 hg1
  unfold Dat.owesAt Pipeline.owesWithin
  icases Ho with ⟨%W, %hW, HO⟩
  rw [show (dats m 0 c).owed t₀.castSucc = O₀ c from rfl]
  iapply (run_body m K c (hv c) W f0 g2) $$ [-]
  isplitr; · iexact HR
  isplitr; · iexact Hlev
  isplitl [Hpl]; · iexact Hpl
  isplitl [Htk]; · iexact Htk
  isplitl [Hcr]; · iexact Hcr
  isplitl [Hra]; · iexact Hra
  isplitl [Hs]; · iexact Hs
  isplitl [HO]; · iexact HO
  isplitl [Ht]; · iexact Ht
  isplitl [Hx]; · iexact Hx
  isplitl [Hout]; · iexact Hout
  iintro ⟨%W', HΦ, HO, Ht, Hx, Hout⟩
  unfold bodyPost Dat.owesAt Pipeline.owesWithin
  rw [show (dats m 0 c).owed t₀.succ = 0 from rfl, iblk_t, iblk_x]
  isplitl [HΦ]; · iexact HΦ
  isplitl [HO]
  · iexists W'
    isplitr; · ipureintro; exact fun _ _ => Or.inl trivial
    iexact HO
  isplitl [Ht]
  · iexists _; isplitr; · (ipureintro; rfl)
    iexact Ht
  isplitl [Hx]
  · iexists _; isplitr; · (ipureintro; rfl)
    iexact Hx
  iexists _; isplitr; · (ipureintro; rfl)
  iexact Hout

/-- The library's body obligation on device `c`. -/
theorem body_obligation (hv : Swaps m) (c : Dev nD) : BodyObligation (dats m 0 c) (defs₀ (F := F)) 𝒱₀ () Set.univ := fun t => by
  rw [fin_N t, bigSep_W, bigSep_W]
  simp only [owns_whole_eq]
  exact sound_body m hv c

end Cert.Exchange

end
-- ==== Proof.Launch.lean ====
/-
# The exchange kernel: its launch and its run when the tables swap

Before any device starts, the nine semaphores of every device are put under their promises, and each token goes to the
device that will make the raise: those of the barriers and of the receive semaphores to the partner. Then the whole
program: every execution ends, each device's result is what its partner sent, the arguments are as they were, and every
semaphore is at zero.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's nine semaphores, together and grouped -/

/-- Something said of each of a device's nine semaphores, grouped as the kernel uses them. -/
abbrev grouped (c : Dev nD) (Ψ : GSem nD τ sig → sProp 𝕄) : sProp 𝕄 :=
  iprop(Ψ (barCell c) ∗ (Ψ (sndCell c 0) ∗ Ψ (sndCell c 1) ∗ Ψ (sndCell c 2) ∗ Ψ (sndCell c 3))
    ∗ (Ψ (rcvCell c 0) ∗ Ψ (rcvCell c 1) ∗ Ψ (rcvCell c 2) ∗ Ψ (rcvCell c 3)))

omit [FloatOps F] in
theorem nine (c : Dev nD) (Ψ : GSem nD τ sig → sProp 𝕄) :
    bigSep Finset.univ (fun k : Fin 9 => Ψ (kcell (c, k)))
      = iprop(Ψ (barCell c) ∗ Ψ (sndCell c 0) ∗ Ψ (sndCell c 1) ∗ Ψ (sndCell c 2) ∗ Ψ (sndCell c 3)
        ∗ Ψ (rcvCell c 0) ∗ Ψ (rcvCell c 1) ∗ Ψ (rcvCell c 2) ∗ Ψ (rcvCell c 3)) := by
  rw [bigSep_univ_eq_bigSepL [0, 1, 2, 3, 4, 5, 6, 7, 8] (by decide) (by decide) fun k => Ψ (kcell (c, k))]; rfl

omit [FloatOps F] in
theorem group (c : Dev nD) (Ψ : GSem nD τ sig → sProp 𝕄) : bigSep Finset.univ (fun k : Fin 9 => Ψ (kcell (c, k))) ⊢ grouped c Ψ := by
  rw [nine]
  iintro ⟨H0, H1, H2, H3, H4, H⟩
  isplitl [H0]; · iexact H0
  isplitl [H1 H2 H3 H4]
  · isplitl [H1]; · iexact H1
    isplitl [H2]; · iexact H2
    isplitl [H3] <;> iassumption
  iexact H
omit [FloatOps F] in
theorem ungroup (c : Dev nD) (Ψ : GSem nD τ sig → sProp 𝕄) : grouped c Ψ ⊢ bigSep Finset.univ (fun k : Fin 9 => Ψ (kcell (c, k))) := by
  rw [nine]
  iintro ⟨H0, ⟨H1, H2, H3, H4⟩, H⟩
  isplitl [H0]; · iexact H0
  isplitl [H1]; · iexact H1
  isplitl [H2]; · iexact H2
  isplitl [H3]; · iexact H3
  isplitl [H4]; · iexact H4
  iexact H

/-! ## The semaphores' promises made -/

/-- The kernel's own eight semaphores. -/
abbrev osem : Fin 8 → SemLoc sig := fun
  | 0 => .dma (sndS 0) | 1 => .dma (sndS 1) | 2 => .dma (sndS 2) | 3 => .dma (sndS 3)
  | 4 => .dma (rcvS 0) | 5 => .dma (rcvS 1) | 6 => .dma (rcvS 2) | 7 => .dma (rcvS 3)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 9 → GSem nD τ sig) := by
  rintro ⟨c, k⟩ ⟨c', k'⟩ h
  have h1 : c = c' := by have := congrArg (fun g : GSem nD τ sig => g.1.1) h; exact this
  have h2 : k = k' := csem_injective (congrArg Prod.snd h)
  subst h1 h2; rfl

def talkCells : Finset (GSem nD τ sig) := Finset.univ.map ⟨kcell, kcell_injective⟩
def talkToks : Finset (GSem nD τ sig × ℕ × Unit) :=
  Finset.univ.map ⟨fun ck : Dev nD × Fin 9 => (kcell ck, 0, ()), fun _ _ h => kcell_injective (congrArg Prod.fst h)⟩

/-- The ghost state at launch: the pipeline's, and the handshake's. -/
def u₀ : UU := (initOf (Pipeline.cells cfgs cellOf_inj) (Pipeline.launchToks cfgs cellOf_inj), initOf talkCells talkToks)

/-- The tokens of device `c`'s own semaphores. -/
def toks (c : Dev nD) : sProp 𝕄 := grouped c fun g => dutyTok ER g 0 ()

/-- What the launch deals device `c`; -/
def G (c : Dev nD) : sProp 𝕄 :=
  iprop((bigSep Finset.univ fun k : Fin 9 => roundState ER (talkRd m) (kcell (c, k)) 0)
    ∗ (bigSep Finset.univ fun k : Fin 9 => iprop(atPos ER (kcell (c, k)) 0 ∅ 0 ∗ reached ER (kcell (c, k)) 0)) ∗ toks c)

/-- and what the devices together make of it. -/
def G' (c : Dev nD) : sProp 𝕄 := iprop(∃ K, records m K ∗ places c ∗ payToks c)

theorem fund_talk : BI.own (ER (initOf talkCells talkToks)) ⊢ (|==> bigSep Finset.univ (G m) : sProp 𝕄) := by
  have hX (Φ : GSem nD τ sig → sProp 𝕄) : bigSep talkCells Φ = bigSep Finset.univ fun c : Dev nD => bigSep Finset.univ fun k : Fin 9 => Φ (kcell (c, k)) := by
    unfold talkCells; rw [bigSep_map, bigSep_univ_prod]; rfl
  have hT : bigSep talkToks (fun x => (dutyTok ER x.1 x.2.1 x.2.2 : sProp 𝕄)) ⊢ bigSep Finset.univ fun c : Dev nD => toks c := by
    unfold talkToks; rw [bigSep_map, bigSep_univ_prod]
    exact bigSep_mono fun c _ => group c fun g => dutyTok ER g 0 ()
  iintro HX
  imod (Rounds.fund ER (talkRd m) talkCells talkToks) $$ HX with ⟨Hst, Hr, Hat, Htok⟩
  imodintro
  ihave Hst' := (Entails.of_eq (hX fun g => roundState ER (talkRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- The kernel's own semaphores are the copies' eight; -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0 ∗ semVal (sndCell c 3) 0
        ∗ semVal (rcvCell c 0) 0 ∗ semVal (rcvCell c 1) 0 ∗ semVal (rcvCell c 2) 0 ∗ semVal (rcvCell c 3) 0) := by
  rw [Pipeline.ownSems0_eq_of_list c osem [0, 1, 2, 3, 4, 5, 6, 7] (by decide) (by decide)]; rfl
omit [FloatOps F] in
/-- the barrier is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_nine (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, nine c fun g => (semVal g 0 : sProp 𝕄)]
  iintro ⟨HS, HB⟩
  isplitl [HB] <;> iassumption

/-- Device `c`'s nine semaphores go under their promises. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (talkRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_nine (F := F) c) $$ [Hos Hus]
  · isplitl [Hos] <;> iassumption
  imod (show iprop((bigSep Finset.univ fun k : Fin 9 => semVal (kcell (c, k)) 0) ∗ bigSep Finset.univ fun k : Fin 9 => roundState ER (talkRd m) (kcell (c, k)) 0)
      ⊢ (|={Set.univ}=> bigSep Finset.univ fun k => iprop(∃ κ : ℕ, cellInv ER (talkRd m) κ (kcell (c, k))) : sProp 𝕄) from by
        rw [← bigSep_sep']
        exact (bigSep_mono fun k _ => (Rounds.body_intro ER (talkRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Each token goes to the device that makes the raise: a barrier's and a receive semaphore's to the partner. -/
theorem toks_across : (bigSep Finset.univ fun c : Dev nD => (toks c : sProp 𝕄)) ⊢ bigSep Finset.univ fun c : Dev nD => payToks c := by
  have three (A S R : Dev nD → sProp 𝕄) : bigSep Finset.univ (fun c => iprop(A c ∗ S c ∗ R c))
      = iprop(bigSep Finset.univ A ∗ bigSep Finset.univ S ∗ bigSep Finset.univ R) := by rw [bigSep_sep', bigSep_sep']
  let A (c : Dev nD) : sProp 𝕄 := dutyTok ER (barCell c) 0 ()
  let S (c : Dev nD) : sProp 𝕄 := iprop(dutyTok ER (sndCell c 0) 0 () ∗ dutyTok ER (sndCell c 1) 0 () ∗ dutyTok ER (sndCell c 2) 0 () ∗ dutyTok ER (sndCell c 3) 0 ())
  let R (c : Dev nD) : sProp 𝕄 := iprop(dutyTok ER (rcvCell c 0) 0 () ∗ dutyTok ER (rcvCell c 1) 0 () ∗ dutyTok ER (rcvCell c 2) 0 () ∗ dutyTok ER (rcvCell c 3) 0 ())
  have h : iprop(bigSep Finset.univ A ∗ bigSep Finset.univ S ∗ bigSep Finset.univ R)
      = iprop((bigSep Finset.univ fun c => A (peer c)) ∗ bigSep Finset.univ S ∗ (bigSep Finset.univ fun c => R (peer c))) := by
    rw [bigSep_univ_equiv partners A, bigSep_univ_equiv partners R]; rfl
  exact Entails.of_eq ((three A S R).trans (h.trans (three (fun c => A (peer c)) S (fun c => R (peer c))).symm))

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (talkRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (talkRd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (talkRd m) κ (kcell ck) : sProp 𝕄))) $$ HI
  icases HK with ⟨%K, #HI⟩
  ihave Htk := (toks_across (F := F)) $$ Htok
  ihave Hpl := (show (bigSep Finset.univ fun c : Dev nD => bigSep Finset.univ fun k : Fin 9 => (atPos ER (kcell (c, k)) 0 ∅ 0 : sProp 𝕄))
      ⊢ bigSep Finset.univ fun c : Dev nD => places c from bigSep_mono fun c _ => group c fun g => atPos ER g 0 ∅ 0) $$ Hat
  iapply (bigSep_beside (R := records m K) (Φ := fun c => iprop(places c ∗ payToks c)) fun c _ => by
    unfold G'; iintro ⟨H1, H2⟩; iexists K; isplitl [H1] <;> iassumption)
  isplitr
  · unfold records; isplitl; · iexact HI
    iexact HR
  · rw [bigSep_sep']
    isplitl [Hpl] <;> iassumption

/-- Every device's semaphores under their promises at once, every token where it is used. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

omit [FloatOps F] in
/-- What the partner owes a receive semaphore is the owner's credit there. -/
theorem credit_rcv (c : Dev nD) (k : Fin 4) :
    (Pipeline.launchCred (fun d => tallyAt (rcvCell (peer d) k) () N) c : sProp 𝕄) ⊢ cred (tallyAt (rcvCell c k) () N) :=
  Pipeline.launchCred_tallyAt (.dma (rcvS k)) peer peer peer_peer peer_peer () N c

omit [FloatOps F] in
/-- Device `c`'s credit: its barrier's one unit, and each receive semaphore's amount. -/
theorem creds (c : Dev nD) : (Pipeline.launchCred O₀ c : sProp 𝕄) ⊢ credits c := by
  have e : (O₀ : Dev nD → CellTallies nD τ sig Unit) = fun d => ((((0 + tallyAt (rcvCell (peer d) 3) () N) + tallyAt (rcvCell (peer d) 2) () N)
      + tallyAt (rcvCell (peer d) 1) () N) + tallyAt (rcvCell (peer d) 0) () N) + tallyAt (barCell (peer d)) () 1 := rfl
  rw [e, Pipeline.launchCred_add, Pipeline.launchCred_add, Pipeline.launchCred_add, Pipeline.launchCred_add, Pipeline.launchCred_add]
  unfold credits
  iintro ⟨⟨⟨⟨⟨-, H3⟩, H2⟩, H1⟩, H0⟩, Hb⟩
  isplitl [Hb]; · iapply (Pipeline.launchCred_tallyAt (.reg barS) peer peer peer_peer peer_peer () 1 c); iexact Hb
  isplitl [H0]; · iapply (credit_rcv c 0); iexact H0
  isplitl [H1]; · iapply (credit_rcv c 1); iexact H1
  isplitl [H2]; · iapply (credit_rcv c 2); iexact H2
  iapply (credit_rcv c 3); iexact H3

/-! ## Into the kernel and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sendAny recvAny
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ zeros sendAny recvAny
  iintro ⟨HB, ⟨⟨H0, H1, H2, H3⟩, HR⟩, Hr⟩
  isplitl [HB]; · iexact HB
  isplitl [H0 H1 H2 H3 HR]
  · isplitl [H0]; · iexact H0
    isplitl [H1]; · iexact H1
    isplitl [H2]; · iexact H2
    isplitl [H3]; · iexact H3
    iexact HR
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Every array a device's kernel works on ends as the proof data say. -/
def Ends : PUnit × MemSt nD τ sig (Elt F) → Prop := fun r =>
  ∀ c : Dev nD, ∀ w : Fin cfg0.W, r.2.mem ((cfg0.win w).arr.view.loc (c : Thread nD τ)) = (dats m 0 c).arrAt w cfg0.N

/-- From any memory whose tables swap, with every semaphore at zero, every execution ends, with every array as the proof
    data say and every semaphore at zero. -/
theorem run_ends (hv : Swaps m) : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hv) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_talk m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- So when the tables swap, every execution ends with each device's result what its partner sent, its arguments as they
    were, and every semaphore at zero. -/
theorem run_swaps (hv : Swaps m) : θ_run defs (onTc (τ := τ) (main (F := F))) ⟨m, fun _ => 0, ρ⟩ (fun r =>
    (∀ c : Dev nD, r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c =>
    ⟨(h.1 c 2).trans (arrAt_out c (dats m 0 c) (outF m c) fun _ => rfl), (h.1 c 1).trans ((dats m 0 c).arrAt_in 1 rfl _),
      (h.1 c 0).trans ((dats m 0 c).arrAt_in 0 rfl _)⟩, h.2⟩) (run_ends m ρ hv)

end Cert.Exchange

end
-- ==== Proof.Stay.lean ====
/-
# The exchange kernel: its run when the table stays

A device whose table names its own side asks nothing of any other: it loads its staged block and stores it as its
result. Every execution ends with each device's result its own block, the arguments as they were, and every semaphore at
zero.
-/
module

public import proofs.«01_k».proof.Proof.Table

@[expose] public section

set_option maxRecDepth 16384

noncomputable section

namespace Cert.Exchange.Stay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

theorem zero3 : (![0, 0, 0] : Fin 3 → ℕ) = fun _ => 0 := funext fun a => by fin_cases a <;> rfl

/-- The kernel on a device whose table names its own side: the staged block becomes the staged result. -/
theorem run_body (c : Dev nD) (t : (cc0_stg0_0 : Ref sig .tc).ty.Contents (Elt F)) (hw : wordOf (F := F) c t = side c)
    (x o : FVec F S1x1024x1024 .f32) {Kt : PUnit → sProp 𝕄} :
    iprop((((c : Thread nD τ).loc cc0_stg0_0) ↦{fullShare} (t : Buf (Elt F) ((c : Thread nD τ).loc cc0_stg0_0)))
        ∗ (((c : Thread nD τ).loc cc0_stg1_0) ↦{fullShare} (x : Buf (Elt F) ((c : Thread nD τ).loc cc0_stg1_0)))
        ∗ (((c : Thread nD τ).loc cc0_stg2_0) ↦{fullShare} (o : Buf (Elt F) ((c : Thread nD τ).loc cc0_stg2_0)))
        ∗ (((((c : Thread nD τ).loc cc0_stg0_0) ↦{fullShare} (t : Buf (Elt F) ((c : Thread nD τ).loc cc0_stg0_0)))
            ∗ (((c : Thread nD τ).loc cc0_stg1_0) ↦{fullShare} (x : Buf (Elt F) ((c : Thread nD τ).loc cc0_stg1_0)))
            ∗ (((c : Thread nD τ).loc cc0_stg2_0) ↦{fullShare} (x : Buf (Elt F) ((c : Thread nD τ).loc cc0_stg2_0)))) -∗ Kt ⟨⟩))
      ⊢ wp frame (wpE (defs₀ (F := F)) Variants.none (c : Thread nD τ) none) Set.univ
          (cc0_body (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [smemLoad, smemLoadElt, Prog.lift, Prog.bind_op, Prog.bind_ret, Prog.pure_eq_ret, Prog.bind_assoc, wp_deviceId]
  iintro ⟨Ht, Hx, Ho, Hk⟩
  iapply (wp_load_rect Variants.none (c : Thread nD τ) none Set.univ (m := (Memref.whole cc0_stg0_0 : Memref sig .tc .smem S2 .i32)) (r := wordR c) (Finset.subset_univ _)) $$ Ht; iintro Ht
  have hchk : k0_chk1 c (wordOf (F := F) c t) := by rw [hw]; exact chk_side c
  have hcond : k0_cond1 c (wordOf (F := F) c t) ≠ 1#1 := by rw [hw]; exact cond_side c
  have hkeep := keep_side c
  rw [← hw] at hkeep
  simp only [wp_assume_of _ _ _ _ (d := k0_chk1.dec _ _) hchk]
  rw [dif_neg hcond, if_pos hkeep]
  iapply (wp_load Variants.none (c : Thread nD τ) none Set.univ (m := xM) (Finset.subset_univ _)) $$ Hx; iintro Hx
  rw [show (xM : Memref sig .tc .vmem S1x1024x1024 .f32).view.readAt (Elt F) _ x = x from Memref.readAt_unit_zero (Elt F) cc0_stg1_0 zero3 _ x]
  iapply (wp_load Variants.none (c : Thread nD τ) none Set.univ (m := oM) (Finset.subset_univ _)) $$ Ho; iintro Ho
  iapply (wp_store Variants.none (c : Thread nD τ) none Set.univ (m := oM) (r := Rect.unit (s := S1x1024x1024) ![0, 0, 0] S1x1024x1024.size inb_S1x1024x1024_S1x1024x1024_0_0_0) (Mk := Finset.univ) (Finset.subset_univ _)) $$ Ho; iintro Ho
  rw [show k0_pay1 x = x from shapeCast_self x _]
  rw [show View.write (Elt F) (oM.access (Rect.unit (s := S1x1024x1024) ![0, 0, 0] S1x1024x1024.size inb_S1x1024x1024_S1x1024x1024_0_0_0)) o x Finset.univ = x
    from Memref.write_access_unit_zero_univ (Elt F) cc0_stg2_0 zero3 _ o x, wp_ret]; imodintro
  iapply Hk
  isplitl [Ht]; · iexact Ht
  isplitl [Hx] <;> iassumption

/-! ## The run -/

/-- The kernel's proof data: the arrays as launched; after the body the table and the block still staged, and the block
    staged as the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => xF m c
  Φ _ := Pipeline.ΦA spec0 c
  q _ := fullShare
  owed _ := 0

theorem A_eq (c : Dev nD) (w : Fin cfg0.W) : (dats m 0 c).A w = V m c (Pipeline.arrRef spec0 w) := by dsimp only [dats]
theorem after_t (c : Dev nD) (t : Fin cfg0.N) : (dats m 0 c).after 0 t = iblk m c 0 t := by dsimp only [dats]
theorem after_x (c : Dev nD) (t : Fin cfg0.N) : (dats m 0 c).after 1 t = iblk m c 1 t := by dsimp only [dats]
theorem after_o (c : Dev nD) (t : Fin cfg0.N) : (dats m 0 c).after 2 t = xF m c := by dsimp only [dats]
theorem before_t (c : Dev nD) (t : Fin cfg0.N) (d) : (dats m 0 c).before 0 t d = tF m c :=
  (before0_0_of m (dats m 0 c) (A_eq m c 0) (after_t m c) t d).trans (iblk_t m c t)
theorem before_x (c : Dev nD) (t : Fin cfg0.N) (d) : (dats m 0 c).before 1 t d = xF m c :=
  (before0_1_of m (dats m 0 c) (A_eq m c 1) (after_x m c) t d).trans (iblk_x m c t)

omit [FloatOps F] in
theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer of device `c` staged at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline gives the body; -/
def bodyPre (c : Dev nD) : sProp 𝕄 :=
  iprop((dats m 0 c).Φ t0_0.castSucc ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- what it takes back. -/
def bodyPost (c : Dev nD) : sProp 𝕄 :=
  iprop((dats m 0 c).Φ t0_0.succ ∗ (dats m 0 c).owesAt () t0_0.succ
    ∗ stg c cc0_stg0_0 (iblk m c 0 t0_0) ∗ stg c cc0_stg1_0 (iblk m c 1 t0_0) ∗ stg c cc0_stg2_0 (xF m c))

/-- When the tables stay, the kernel takes the one to the other. -/
theorem sound_body (hv : Stays m) (c : Dev nD) :
    bodyPre m c ⊢ wp frame (wpE (defs₀ (F := F)) Variants.none (c : Thread nD τ) none) Set.univ
      (cc0_body (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) (fun _ => bodyPost m c) := by
  unfold bodyPre
  iintro ⟨HΦ, HO, ⟨%d0, %g0, %hg0, Ht⟩, ⟨%d1, %g1, %hg1, Hx⟩, ⟨%d2, %g2, %hg2, Hout⟩⟩
  rw [before_t] at hg0
  rw [before_x] at hg1
  subst hg0 hg1
  iapply (run_body c (tF m c) ((wordOf_eq m c).trans (hv c)) (xF m c) g2) $$ [-]
  isplitl [Ht]; · iexact Ht
  isplitl [Hx]; · iexact Hx
  isplitl [Hout]; · iexact Hout
  iintro ⟨Ht, Hx, Hout⟩
  unfold bodyPost
  rw [show (dats m 0 c).Φ t0_0.succ = (dats m 0 c).Φ t0_0.castSucc from rfl,
    show (dats m 0 c).owesAt () t0_0.succ = (dats m 0 c).owesAt () t0_0.castSucc from rfl, iblk_t, iblk_x]
  isplitl [HΦ]; · iexact HΦ
  isplitl [HO]; · iexact HO
  isplitl [Ht]
  · iexists _; isplitr; · (ipureintro; rfl)
    iexact Ht
  isplitl [Hx]
  · iexists _; isplitr; · (ipureintro; rfl)
    iexact Hx
  iexists _; isplitr; · (ipureintro; rfl)
  iexact Hout

/-- The library's body obligation on device `c`. -/
theorem body_obligation (hv : Stays m) (c : Dev nD) : BodyObligation (dats m 0 c) (defs₀ (F := F)) Variants.none () Set.univ := fun t => by
  rw [fin_N0 t, bigSep_W0, bigSep_W0]
  simp only [owns_whole_eq]
  exact sound_body m hv c

set_option backward.isDefEq.respectTransparency.types false in
/-- From any memory whose tables stay, with every semaphore at zero, every execution ends, with every array as the proof
    data say and every semaphore at zero. -/
theorem run_ends (hv : Stays m) : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hv c).loose) (hshare := fun c => (dats m 0 c).share_full fun _ => rfl)
    (howed := fun _ _ => rfl) (V := V m) (hmain := hmain m Variants.none) (hA := A_eq m) (hΦ := fun _ _ => rfl)

/-- So when the tables stay, every execution ends with each device's result its own block, its arguments as they were, and
    every semaphore at zero. -/
theorem run_stays (hv : Stays m) : θ_run defs (onTc (τ := τ) (main (F := F))) ⟨m, fun _ => 0, ρ⟩ (fun r =>
    (∀ c : Dev nD, r.2.mem ((c.tc : Thread nD τ).loc main_v1) = xF m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c =>
    ⟨((h.1 c).1 2).trans (arrAt_out c (dats m 0 c) (xF m c) fun _ => rfl), ((h.1 c).1 1).trans ((dats m 0 c).arrAt_in 1 rfl _),
      ((h.1 c).1 0).trans ((dats m 0 c).arrAt_in 0 rfl _)⟩, h.2⟩) (run_ends m ρ hv)

end Cert.Exchange.Stay

end
-- ==== Proof.Value.lean ====
/-
# The exchange kernel: what its reference computes

The reference sorts the table, carrying the positions, and takes the slices of `x` in that order. Of the table `[1, 0]`
that order exchanges the two slices; of `[0, 1]` it leaves them. Cut over the mesh's middle axis, a device's block of the
exchanged array is its partner's block of `x`.
-/
module

public import proofs.«01_k».proof.Proof.Table
public import proofs.«01_k».proof.Proof.Gen.ReferenceIdeal
public import Idealize.ShloMosaic.Lib.Layout
public import Idealize.ShloMosaic.Lib.ValueIdxCore

@[expose] public section

set_option maxRecDepth 16384

noncomputable section

namespace Cert.Exchange.Value

open Idealize.ShloMosaic Idealize.ShloMosaic.ValueIdx
open Cert.ReferenceIdeal Cert.ReferenceIdeal.Gen

variable {F : FTy → Type} [FloatOps F]

/-! ## The two tables -/

/-- The table that exchanges the two sides, -/
def crossed : IVec S2 32 := fun i => BitVec.ofNat 32 (1 - (i 0).val)
/-- and the one that keeps them. -/
def straight : IVec S2 32 := fun i => BitVec.ofNat 32 (i 0).val

/-! ## The order the reference takes the slices in -/

/-- The positions of a table, sorted by its entries. -/
def sorted (p : IVec S2 32) : IVec S2 32 := (Host.sort2 S2 0 comparator_i32_i32_d0 p (iotaInDim S2 32 0)).2
/-- The slice numbers the reference takes, one to a row. -/
def order (p : IVec S2 32) : IVec S2x1 32 :=
  broadcastInDim S2x1 ![0] bcast_S2_S2x1_0 (select (cmpi .slt (sorted p) (broadcastInDim S2 ![] bcast_S_S2 (constantI S_ 32 0#32)))
    (addi (sorted p) (broadcastInDim S2 ![] bcast_S_S2 (constantI S_ 32 2#32))) (sorted p))

/-- The crossed table takes the other slice first; -/
theorem order_crossed (a : Fin 2) : order crossed (ix2 a 0) = BitVec.ofNat 32 (1 - a.val) := by
  revert a; decide +kernel
/-- the straight one takes them as they come. -/
theorem order_straight (a : Fin 2) : order straight (ix2 a 0) = BitVec.ofNat 32 a.val := by
  revert a; decide +kernel

/-! ## Taking slices -/

/-- The reference's result: `x`'s slices in the table's order. -/
def taken (x : FVec F S2x1024x1024 .f32) (p : IVec S2 32) : FVec F S2x1024x1024 .f32 :=
  Host.gather gather_S2x1024x1024_S2x1_S2x1024x1024_12_0_n_n_0_1_110241024 x (order p)

/-- Where the list of slice numbers names slice `r` for `a`, slice `a` of what is taken is slice `r`. -/
theorem taken_apply (x : FVec F S2x1024x1024 .f32) (p : IVec S2 32) (a : Fin 2) (b e : Fin 1024) (r : Fin 2)
    (hr : order p (ix2 a 0) = BitVec.ofNat 32 r.val) : taken x p (ix3 a b e) = x (ix3 r b e) := by
  unfold taken Host.gather
  refine congrArg x (funext fun d => Fin.ext ?_)
  match d with
  | ⟨0, _⟩ =>
    show GatherDims.start _ (ix3 a b e) (order p) 0 + GatherDims.batchCoord _ (ix3 a b e) 0 + GatherDims.offCoord _ (ix3 a b e) 0 = r.val
    rw [GatherDims.batchCoord_eq_zero _ _ _ (by decide), GatherDims.offCoord_eq_zero _ _ _ (by decide)]
    unfold GatherDims.start
    rw [dif_pos (by decide)]
    rw [show GatherDims.siIdx gather_S2x1024x1024_S2x1_S2x1024x1024_12_0_n_n_0_1_110241024 (ix3 a b e) _ = ix2 a 0 from
      funext fun k => Fin.ext (by match k with
        | ⟨0, _⟩ => rfl
        | ⟨1, _⟩ => rfl), hr]
    clear hr; revert r; decide
  | ⟨1, _⟩ =>
    show GatherDims.start _ (ix3 a b e) (order p) 1 + GatherDims.batchCoord _ (ix3 a b e) 1 + GatherDims.offCoord _ (ix3 a b e) 1 = b.val
    rw [GatherDims.batchCoord_eq_zero _ _ _ (by decide)]
    unfold GatherDims.start GatherDims.offCoord
    rw [dif_neg (by decide), dif_pos (by decide), Nat.add_zero, Nat.zero_add]
    rfl
  | ⟨2, _⟩ =>
    show GatherDims.start _ (ix3 a b e) (order p) 2 + GatherDims.batchCoord _ (ix3 a b e) 2 + GatherDims.offCoord _ (ix3 a b e) 2 = e.val
    rw [GatherDims.batchCoord_eq_zero _ _ _ (by decide)]
    unfold GatherDims.start GatherDims.offCoord
    rw [dif_neg (by decide), dif_pos (by decide), Nat.add_zero, Nat.zero_add]
    rfl

/-- The crossed table takes slice `1 - a` as slice `a`; -/
theorem taken_crossed (x : FVec F S2x1024x1024 .f32) (i : S2x1024x1024.Idx) :
    taken x crossed i = x (ix3 ⟨1 - (i 0).val, by omega⟩ (i 1) (i 2)) := by
  conv_lhs => rw [eq_ix3 i]
  exact taken_apply x crossed (i 0) (i 1) (i 2) _ (order_crossed (i 0))
/-- the straight one takes each slice as itself. -/
theorem taken_straight (x : FVec F S2x1024x1024 .f32) : taken x straight = x := by
  funext i
  rw [eq_ix3 i]
  exact taken_apply x straight (i 0) (i 1) (i 2) (i 0) (order_straight (i 0))

/-! ## The blocks -/

/-- Device `c`'s block of an array cut in two along the mesh's middle axis. -/
abbrev part (c : Dev Cert.KernelIdeal.nD) (x : FVec F S2x1024x1024 .f32) : FVec F Cert.KernelIdeal.S1x1024x1024 .f32 :=
  Layout.blockN ⟨3, ![1, 1024, 1024]⟩ ⟨3, ![2, 1024, 1024]⟩ (Layout.meshBlock [2, 2, 4] ![[1], [], []] c) x

/-- Partners hold different blocks. -/
theorem block_peer (c : Dev Cert.KernelIdeal.nD) : Layout.meshLin [2, 2, 4] (peer c).val [1] = 1 - Layout.meshLin [2, 2, 4] c.val [1] := by
  revert c; decide

/-- A device's block of the exchanged array is its partner's block of `x`. -/
theorem part_crossed (c : Dev Cert.KernelIdeal.nD) (x : FVec F S2x1024x1024 .f32) : part c (taken x crossed) = part (peer c) x := by
  funext i
  show taken x crossed _ = x _
  rw [taken_crossed]
  refine congrArg x (funext fun d => Fin.ext ?_)
  match d with
  | ⟨0, _⟩ =>
    have h0 : (i 0).val < 1 := (i 0).isLt
    show 1 - (Layout.meshLin [2, 2, 4] c.val [1] * 1 + (i 0).val) = Layout.meshLin [2, 2, 4] (peer c).val [1] * 1 + (i 0).val
    rw [block_peer]; omega
  | ⟨1, _⟩ => rfl
  | ⟨2, _⟩ => rfl

/-! ## The tables a device reads -/

/-- With the crossed table everywhere every device is sent across; -/
theorem swaps_of (m : (ℓ : Loc Cert.KernelIdeal.nD Cert.KernelIdeal.τ Cert.KernelIdeal.sig) → Buf (Elt F) ℓ) (h : ∀ c, tF m c = crossed) : Swaps m :=
  fun c => by rw [h]; rfl
/-- with the straight one none is. -/
theorem stays_of (m : (ℓ : Loc Cert.KernelIdeal.nD Cert.KernelIdeal.τ Cert.KernelIdeal.sig) → Buf (Elt F) ℓ) (h : ∀ c, tF m c = straight) : Stays m :=
  fun c => by rw [h]; rfl

end Cert.Exchange.Value

end
-- ==== Proof.Same.lean ====
/-
# The exchange kernel: its two printings run alike

The kernel as printed and as printed for the reals have the same text, so that a run of the one is a run of the other.
-/
module

public import proofs.«01_k».proof.Defs
public import proofs.«01_k».proof.Proof.Gen.Kernel
public import proofs.«01_k».proof.Proof.Gen.KernelIdeal

@[expose] public section

set_option maxRecDepth 16384

noncomputable section

namespace Cert.Exchange.Same

open Idealize.ShloMosaic Idealize.SL.Sem

variable {F : FTy → Type} [FloatOps F]

/-- The two printings' kernels, label by label; -/
theorem kernels : Cert.Kernel.defs₀ (F := F) = Cert.KernelIdeal.defs₀ (F := F) :=
  congrArg Defs.onTc (funext fun l => funext fun a => by
    match l with
    | ⟨0, _⟩ => rfl)

/-- their tables of bodies; -/
theorem bodies : Cert.Kernel.defs (F := F) = Cert.KernelIdeal.defs (F := F) := congrArg (Pipeline.defs Cert.KernelIdeal.pcfgs) kernels

/-- and what is said of every execution of the one is said of the other. -/
theorem runs (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun D => θ_run D (onTc (τ := Cert.KernelIdeal.τ) (Cert.KernelIdeal.main (F := F))) s Q) bodies).mpr h

end Cert.Exchange.Same

end
-- ==== Proof.Claims.lean ====
/-
# The exchange kernel: the claims

The claims about the kernel's runs, about the reference's, and that over the reals the one leaves on each device its block
of what the other computes, each for the table `[1, 0]` and for the table `[0, 1]`.
-/
module

public import proofs.«01_k».proof.Defs
public import proofs.«01_k».proof.Proof.Launch
public import proofs.«01_k».proof.Proof.Stay
public import proofs.«01_k».proof.Proof.Value
public import proofs.«01_k».proof.Proof.Same
public import proofs.«01_k».proof.Proof.Gen.Kernel
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal

@[expose] public section

set_option maxRecDepth 16384

noncomputable section

namespace Cert.Exchange.Claims

open Idealize.ShloMosaic Idealize.ShloMosaic.ValueIdx Idealize.SL.Sem
open Idealize.ShloMosaic.TcCoe
open Cert.Exchange.Value (crossed straight taken part)

variable {F : FTy → Type} [FloatOps F]

/-! ## The preconditions -/

/-- A word compared equal is equal. -/
theorem eq_of_cmpi (p q : BitVec 32) (h : IntOp.cmpi .eq p q = 1#1) : p = q := by
  by_contra hne
  refine absurd h ?_
  show BitVec.ofBool (p == q) ≠ 1#1
  rw [beq_false_of_ne hne]; decide

/-- Where `swaps` holds of a device's blocks, its table is the crossed one; -/
theorem crossed_of (x : FVec F Cert.Pre_swaps_Kernel.S1x1024x1024 .f32) (p : IVec Cert.Pre_swaps_Kernel.S2 32)
    (h : Cert.Pre_swaps_Kernel.fn (F := F) x p = fun _ => 1#1) : p = crossed := by
  funext i
  have hl : ∀ k : Fin 2, Cert.Pre_swaps_Kernel.lit0 (Cert.Pre_swaps_Kernel.S2.rowMajor (ix1 k)) = crossed (ix1 k) := by decide
  rw [eq_of_cmpi _ _ (congrFun h i : IntOp.cmpi .eq (p i) (Cert.Pre_swaps_Kernel.lit0 (Cert.Pre_swaps_Kernel.S2.rowMajor i)) = 1#1), eq_ix1 i]
  exact hl (i 0)

/-- where `stays` does, the straight one. -/
theorem straight_of (x : FVec F Cert.Pre_stays_Kernel.S1x1024x1024 .f32) (p : IVec Cert.Pre_stays_Kernel.S2 32)
    (h : Cert.Pre_stays_Kernel.fn (F := F) x p = fun _ => 1#1) : p = straight := by
  funext i
  have hl : ∀ k : Fin 2, Cert.Pre_stays_Kernel.lit0 (Cert.Pre_stays_Kernel.S2.rowMajor (ix1 k)) = straight (ix1 k) := by decide
  rw [eq_of_cmpi _ _ (congrFun h i : IntOp.cmpi .eq (p i) (Cert.Pre_stays_Kernel.lit0 (Cert.Pre_stays_Kernel.S2.rowMajor i)) = 1#1), eq_ix1 i]
  exact hl (i 0)

/-! ## The kernel's frames -/

/-- The kernel as it is, table crossed: every execution ends, arguments as they were, semaphores at zero. -/
theorem frame_swaps : Cert.quiescent_Kernel := fun m g h =>
  Same.runs _ _ ((θ_run Cert.KernelIdeal.defs _ _).mono (fun _ r => ⟨fun c => (r.1 c).2, r.2⟩)
    (run_swaps (F := Bits) m g (Value.swaps_of m fun c => crossed_of _ _ (h c))))

/-- The kernel as it is, table straight. -/
theorem frame_stays : Cert.quiescent_Kernel_pre_stays_Kernel := fun m g h =>
  Same.runs _ _ ((θ_run Cert.KernelIdeal.defs _ _).mono (fun _ r => ⟨fun c => (r.1 c).2, r.2⟩)
    (Stay.run_stays (F := Bits) m g (Value.stays_of m fun c => straight_of _ _ (h c))))

/-- The idealized kernel, table crossed. -/
theorem frame_swaps_ideal : Cert.quiescent_KernelIdeal := fun m g h =>
  (θ_run Cert.KernelIdeal.defs _ _).mono (fun _ r => ⟨fun c => (r.1 c).2, r.2⟩)
    (run_swaps (F := Ideal) m g (Value.swaps_of m fun c => crossed_of _ _ (h c)))

/-- The idealized kernel, table straight. -/
theorem frame_stays_ideal : Cert.quiescent_KernelIdeal_pre_stays_Kernel := fun m g h =>
  (θ_run Cert.KernelIdeal.defs _ _).mono (fun _ r => ⟨fun c => (r.1 c).2, r.2⟩)
    (Stay.run_stays (F := Ideal) m g (Value.stays_of m fun c => straight_of _ _ (h c)))

/-! ## The reference's frames -/

/-- The reference, a list of host operations, ends with its arguments as they were; it declares no semaphore. -/
theorem reference_ends (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m g)

/-- The reference of any arguments, -/
theorem frame_reference : Cert.quiescent_ReferenceIdeal := fun m g _ => reference_ends m g
/-- of those with the table crossed, -/
theorem frame_reference_swaps : Cert.quiescent_ReferenceIdeal_pre_swaps_ReferenceIdeal := fun m g _ => reference_ends m g
/-- of those with it straight. -/
theorem frame_reference_stays : Cert.quiescent_ReferenceIdeal_pre_stays_ReferenceIdeal := fun m g _ => reference_ends m g

/-! ## The values -/

/-- Over the reals, table crossed: each device ends with its block of the reference's result. -/
theorem value_swaps : Cert.algebraic_KernelIdeal_ReferenceIdeal := fun m g m' g' hp h => by
  have hc : ∀ c, tF m c = crossed := fun c => crossed_of _ _ (hp c)
  refine ⟨taken (F := Ideal) (m' (((0 : Dev Cert.ReferenceIdeal.nD).tc : Thread Cert.ReferenceIdeal.nD Cert.ReferenceIdeal.τ).loc Cert.ReferenceIdeal.main_arg0)) crossed, ?_, ?_⟩
  · refine (θ_run Cert.KernelIdeal.defs _ _).mono (fun _ r c => ⟨(r.1 c).1.trans ?_, (r.1 c).2⟩) (run_swaps (F := Ideal) m g (Value.swaps_of m hc))
    exact (h (peer c)).1.trans (Value.part_crossed (F := Ideal) c _).symm
  · refine (θ_run Cert.ReferenceIdeal.defs _ _).mono (fun _ r => ⟨(r 0).1.trans ?_, (r 0).2⟩) (Cert.ReferenceIdeal.Value.run (F := Ideal) m' g')
    exact congrArg (taken (F := Ideal) _) ((h 0).2.symm.trans (hc 0))

/-- Over the reals, table straight: the same. -/
theorem value_stays : Cert.algebraic_KernelIdeal_ReferenceIdeal_pre_stays_Kernel := fun m g m' g' hp h => by
  have hc : ∀ c, tF m c = straight := fun c => straight_of _ _ (hp c)
  refine ⟨taken (F := Ideal) (m' (((0 : Dev Cert.ReferenceIdeal.nD).tc : Thread Cert.ReferenceIdeal.nD Cert.ReferenceIdeal.τ).loc Cert.ReferenceIdeal.main_arg0)) straight, ?_, ?_⟩
  · refine (θ_run Cert.KernelIdeal.defs _ _).mono (fun _ r c => ⟨(r.1 c).1.trans ?_, (r.1 c).2⟩) (Stay.run_stays (F := Ideal) m g (Value.stays_of m hc))
    rw [Value.taken_straight]; exact (h c).1
  · refine (θ_run Cert.ReferenceIdeal.defs _ _).mono (fun _ r => ⟨(r 0).1.trans ?_, (r 0).2⟩) (Cert.ReferenceIdeal.Value.run (F := Ideal) m' g')
    exact congrArg (taken (F := Ideal) _) ((h 0).2.symm.trans (hc 0))

end Cert.Exchange.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_swaps_Kernel.Gen.facts, Cert.Pre_stays_Kernel.Gen.facts, Cert.Pre_swaps_ReferenceIdeal.Gen.facts, Cert.Pre_stays_ReferenceIdeal.Gen.facts,
  Exchange.Claims.frame_swaps, Exchange.Claims.frame_stays, Exchange.Claims.frame_swaps_ideal, Exchange.Claims.frame_stays_ideal,
  Exchange.Claims.frame_reference, Exchange.Claims.frame_reference_swaps, Exchange.Claims.frame_reference_stays, trivial,
  Exchange.Claims.value_swaps, Exchange.Claims.value_stays⟩

end Cert.Proof

end
